-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  bcast_S_S1024x1024 : S_.BroadcastsInDim S1024x1024 (![] : Fin 0 → Fin S1024x1024.rank)

variable [Facts]

def fn {F : FTy → Type} [FloatOps F] (main_arg0 : FVec F S4x4096x1024 .f32) (main_arg1 : FVec F S1024x1024 .f32) (main_arg2 : FVec F S1024x1024 .f32) (main_arg3 : FVec F S_ .f32) (main_arg4 : FVec F S_ .f32) : IVec S4x4096x1024 1 × IVec S1024x1024 1 × IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_cst_1 : FVec F S_ .f32 := constant S_ .f32 0x7F800000#32
  let main_v6 : IVec S_ 1 := cmpf .olt main_arg4 main_cst_1
  (main_v2, main_v5, main_v6)
-- ==== Kernel.lean ====
abbrev S4x4096x1024 : Shape := ⟨3, ![4, 4096, 1024]⟩
abbrev S1024x1024 : Shape := ⟨2, ![1024, 1024]⟩
abbrev S_ : Shape := ⟨0, ![]⟩
abbrev S1 : Shape := ⟨1, ![1]⟩
abbrev S2 : Shape := ⟨1, ![2]⟩
abbrev S2x2x4096x1024 : Shape := ⟨4, ![2, 2, 4096, 1024]⟩
abbrev S1x2x512x1024 : Shape := ⟨4, ![1, 2, 512, 1024]⟩
abbrev S2x1024x1024 : Shape := ⟨3, ![2, 1024, 1024]⟩
abbrev S2x1024 : Shape := ⟨2, ![2, 1024]⟩
abbrev S512x512 : Shape := ⟨2, ![512, 512]⟩
abbrev S512x1 : Shape := ⟨2, ![512, 1]⟩
abbrev S1x1x512x1024 : Shape := ⟨4, ![1, 1, 512, 1024]⟩
abbrev S512x1024 : Shape := ⟨2, ![512, 1024]⟩
abbrev S1x1024 : Shape := ⟨2, ![1, 1024]⟩
abbrev S511x1024 : Shape := ⟨2, ![511, 1024]⟩
abbrev S1x1024x1024 : Shape := ⟨3, ![1, 1024, 1024]⟩

abbrev nBuf : Space → Nat
  | .hbm => 26
  | .vmem => 9
  | .smem => 1
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S2, .f32⟩
  | .hbm, ⟨18, _⟩ => ⟨S2x2x4096x1024, .f32⟩
  | .hbm, ⟨19, _⟩ => ⟨S1024x1024, .bf16⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .bf16⟩
  | .hbm, ⟨24, _⟩ => ⟨S2x2x4096x1024, .f32⟩
  | .hbm, ⟨25, _⟩ => ⟨S4x4096x1024, .f32⟩
  | .local _ .vmem, ⟨0, _⟩ => ⟨S1x2x512x1024, .f32⟩
  | .local _ .vmem, ⟨1, _⟩ => ⟨S1x2x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x2x512x1024, .f32⟩
  | .local _ .vmem, ⟨5, _⟩ => ⟨S1x2x512x1024, .f32⟩
  | .local _ .vmem, ⟨6, _⟩ => ⟨S2x1024x1024, .bf16⟩
  | .local _ .vmem, ⟨7, _⟩ => ⟨S2x1024, .f32⟩
  | .local _ .vmem, ⟨8, _⟩ => ⟨S512x512, .f32⟩
  | .local _ .smem, ⟨0, _⟩ => ⟨S2, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x4096x1024 : Shape := ⟨3, ![4, 4096, 1024]⟩
abbrev S1024x1024 : Shape := ⟨2, ![1024, 1024]⟩
abbrev S_ : Shape := ⟨0, ![]⟩
abbrev S4x4095x1024 : Shape := ⟨3, ![4, 4095, 1024]⟩
abbrev S4x64x64x1024 : Shape := ⟨4, ![4, 64, 64, 1024]⟩
abbrev S64x4x64x1024 : Shape := ⟨4, ![64, 4, 64, 1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x1024x1024 : Shape := ⟨3, ![4, 1024, 1024]⟩
abbrev S1x4x64x1024 : Shape := ⟨4, ![1, 4, 64, 1024]⟩
abbrev S4x64x1024 : Shape := ⟨3, ![4, 64, 1024]⟩
abbrev S1x64x1 : Shape := ⟨3, ![1, 64, 1]⟩
abbrev S4x64x64 : Shape := ⟨3, ![4, 64, 64]⟩
abbrev S1x64x64 : Shape := ⟨3, ![1, 64, 64]⟩

abbrev nBuf : Space → Nat
  | .hbm => 127
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x4096x1024, .f32⟩
  | .hbm, ⟨13, _⟩ => ⟨S4x4095x1024, .f32⟩
  | .hbm, ⟨14, _⟩ => ⟨S_, .i32⟩
  | .hbm, ⟨15, _⟩ => ⟨S_, .f32⟩
  | .hbm, ⟨16, _⟩ => ⟨S4x4096x1024, .f32⟩
  | .hbm, ⟨17, _⟩ => ⟨S4x64x64x1024, .f32⟩
  | .hbm, ⟨18, _⟩ => ⟨S64x4x64x1024, .f32⟩
  | .hbm, ⟨19, _⟩ => ⟨S4x64x64x1024, .f32⟩
  | .hbm, ⟨20, _⟩ => ⟨S64x4x64x1024, .f32⟩
  | .hbm, ⟨21, _⟩ => ⟨S4x64x64x1024, .f32⟩
  | .hbm, ⟨22, _⟩ => ⟨S64x4x64x1024, .f32⟩
  | .hbm, ⟨23, _⟩ => ⟨S64, .i32⟩
  | .hbm, ⟨24, _⟩ => ⟨S64x1, .i32⟩
  | .hbm, ⟨25, _⟩ => ⟨S_, .i32⟩
  | .hbm, ⟨26, _⟩ => ⟨S64x1, .i32⟩
  | .hbm, ⟨27, _⟩ => ⟨S64x1, .i32⟩
  | .hbm, ⟨28, _⟩ => ⟨S1x64, .i32⟩
  | .hbm, ⟨29, _⟩ => ⟨S64x64, .i32⟩
  | .hbm, ⟨30, _⟩ => ⟨S64x64, .i32⟩
  | .hbm, ⟨31, _⟩ => ⟨S64x64, .i32⟩
  | .hbm, ⟨32, _⟩ => ⟨S_, .i32⟩
  | .hbm, ⟨33, _⟩ => ⟨S_, .i32⟩
  | .hbm, ⟨34, _⟩ => ⟨S64x64, .i32⟩
  | .hbm, ⟨35, _⟩ => ⟨S64x64, .i32⟩
  | .hbm, ⟨36, _⟩ => ⟨S64x1, .i32⟩
  | .hbm, ⟨37, _⟩ => ⟨S1x64, .i32⟩
  | .hbm, ⟨38, _⟩ => ⟨S64x64, .i32⟩
  | .hbm, ⟨39, _⟩ => ⟨S64x64, .i32⟩
  | .hbm, ⟨40, _⟩ => ⟨S64x64, .i1⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S_, .i32⟩
  | .hbm, ⟨52, _⟩ => ⟨S64, .i32⟩
  | .hbm, ⟨53, _⟩ => ⟨S64, .i32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4x1024x1024, .f32⟩
  | .hbm, ⟨66, _⟩ => ⟨S_, .f32⟩
  | .hbm, ⟨67, _⟩ => ⟨S64x4x64x1024, .f32⟩
  | .hbm, ⟨68, _⟩ => ⟨S_, .i32⟩
  | .hbm, ⟨69, _⟩ => ⟨S64x4x64x1024, .f32⟩
  | .hbm, ⟨70, _⟩ => ⟨S64x4x64x1024, .f32⟩
  | .hbm, ⟨71, _⟩ => ⟨S64x4x64x1024, .f32⟩
  | .hbm, ⟨72, _⟩ => ⟨S64, .f32⟩
  | .hbm, ⟨73, _⟩ => ⟨S64x64, .f32⟩
  | .hbm, ⟨74, _⟩ => ⟨S_, .f32⟩
  | .hbm, ⟨75, _⟩ => ⟨S64, .f32⟩
  | .hbm, ⟨76, _⟩ => ⟨S_, .i32⟩
  | .hbm, ⟨77, _⟩ => ⟨S4x1024x1024, .f32⟩
  | .hbm, ⟨78, _⟩ => ⟨S64x4x64x1024, .f32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S1x4x64x1024, .f32⟩
  | .hbm, ⟨85, _⟩ => ⟨S4x64x1024, .f32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S1x4x64x1024, .f32⟩
  | .hbm, ⟨90, _⟩ => ⟨S4x64x1024, .f32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S1x4x64x1024, .f32⟩
  | .hbm, ⟨95, _⟩ => ⟨S4x64x1024, .f32⟩
  | .hbm, ⟨96, _⟩ => ⟨S4x64x1024, .f32⟩
  | .hbm, ⟨97, _⟩ => ⟨S1x64x1, .f32⟩
  | .hbm, ⟨98, _⟩ => ⟨S4x64x1024, .f32⟩
  | .hbm, ⟨99, _⟩ => ⟨S4x64x1024, .f32⟩
  | .hbm, ⟨100, _⟩ => ⟨S4x64x64, .f32⟩
  | .hbm, ⟨101, _⟩ => ⟨S1x64x64, .f32⟩
  | .hbm, ⟨102, _⟩ => ⟨S4x64x64, .f32⟩
  | .hbm, ⟨103, _⟩ => ⟨S4x64x64, .f32⟩
  | .hbm, ⟨104, _⟩ => ⟨S4x64x1024, .f32⟩
  | .hbm, ⟨105, _⟩ => ⟨S4x64x1024, .f32⟩
  | .hbm, ⟨106, _⟩ => ⟨S4x1024x1024, .f32⟩
  | .hbm, ⟨107, _⟩ => ⟨S4x1024x1024, .f32⟩
  | .hbm, ⟨108, _⟩ => ⟨S1x64x1, .f32⟩
  | .hbm, ⟨109, _⟩ => ⟨S4x64x1024, .f32⟩
  | .hbm, ⟨110, _⟩ => ⟨S4x64x1024, .f32⟩
  | .hbm, ⟨111, _⟩ => ⟨S4x1024x1024, .f32⟩
  | .hbm, ⟨112, _⟩ => ⟨S4x1024x1024, .f32⟩
  | .hbm, ⟨113, _⟩ => ⟨S1x4x64x1024, .f32⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S64x4x64x1024, .f32⟩
  | .hbm, ⟨118, _⟩ => ⟨S_, .i32⟩
  | .hbm, ⟨119, _⟩ => ⟨S_, .i32⟩
  | .hbm, ⟨120, _⟩ => ⟨S4x64x64x1024, .f32⟩
  | .hbm, ⟨121, _⟩ => ⟨S4x4096x1024, .f32⟩
  | .hbm, ⟨122, _⟩ => ⟨S_, .f32⟩
  | .hbm, ⟨123, _⟩ => ⟨S4x4096x1024, .f32⟩
  | .hbm, ⟨124, _⟩ => ⟨S4x4096x1024, .f32⟩
  | .hbm, ⟨125, _⟩ => ⟨S4x4096x1024, .f32⟩
  | .hbm, ⟨126, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_call1_v0 : Ref sig .tc := ⟨.hbm, 33, rfl⟩
abbrev main_call1_v1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_c_6 : Ref sig .tc := ⟨.hbm, 68, rfl⟩
abbrev main_v52_0 : Ref sig .tc := ⟨.hbm, 69, rfl⟩
abbrev main_v52_1 : Ref sig .tc := ⟨.hbm, 70, rfl⟩
abbrev main_v52_2 : Ref sig .tc := ⟨.hbm, 71, rfl⟩
abbrev main_v52_3 : Ref sig .tc := ⟨.hbm, 72, rfl⟩
abbrev main_v52_4 : Ref sig .tc := ⟨.hbm, 73, rfl⟩
abbrev main_v52_5 : Ref sig .tc := ⟨.hbm, 74, rfl⟩
abbrev main_v52_6 : Ref sig .tc := ⟨.hbm, 75, rfl⟩
abbrev main_v52_7 : Ref sig .tc := ⟨.hbm, 76, rfl⟩
abbrev main_v52_8 : Ref sig .tc := ⟨.hbm, 77, rfl⟩
abbrev main_v52_9 : Ref sig .tc := ⟨.hbm, 78, rfl⟩
abbrev main_while0c_c_16 : Ref sig .tc := ⟨.hbm, 79, rfl⟩
abbrev main_while0c_v60 : Ref sig .tc := ⟨.hbm, 80, rfl⟩
abbrev main_while0b_call2_c : Ref sig .tc := ⟨.hbm, 81, rfl⟩
abbrev main_while0b_call2_c_0 : Ref sig .tc := ⟨.hbm, 82, rfl⟩
abbrev main_while0b_call2_c_1 : Ref sig .tc := ⟨.hbm, 83, rfl⟩
abbrev main_while0b_call2_v0 : Ref sig .tc := ⟨.hbm, 84, rfl⟩
abbrev main_while0b_v60 : Ref sig .tc := ⟨.hbm, 85, rfl⟩
abbrev main_while0b_call3_c : Ref sig .tc := ⟨.hbm, 86, rfl⟩
abbrev main_while0b_call3_c_0 : Ref sig .tc := ⟨.hbm, 87, rfl⟩
abbrev main_while0b_call3_c_1 : Ref sig .tc := ⟨.hbm, 88, rfl⟩
abbrev main_while0b_call3_v0 : Ref sig .tc := ⟨.hbm, 89, rfl⟩
abbrev main_while0b_v61 : Ref sig .tc := ⟨.hbm, 90, rfl⟩
abbrev main_while0b_call4_c : Ref sig .tc := ⟨.hbm, 91, rfl⟩
abbrev main_while0b_call4_c_0 : Ref sig .tc := ⟨.hbm, 92, rfl⟩
abbrev main_while0b_call4_c_1 : Ref sig .tc := ⟨.hbm, 93, rfl⟩
abbrev main_while0b_call4_v0 : Ref sig .tc := ⟨.hbm, 94, rfl⟩
abbrev main_while0b_v62 : Ref sig .tc := ⟨.hbm, 95, rfl⟩
abbrev main_while0b_v63 : Ref sig .tc := ⟨.hbm, 96, rfl⟩
abbrev main_while0b_v64 : Ref sig .tc := ⟨.hbm, 97, rfl⟩
abbrev main_while0b_v65 : Ref sig .tc := ⟨.hbm, 98, rfl⟩
abbrev main_while0b_v66 : Ref sig .tc := ⟨.hbm, 99, rfl⟩
abbrev main_while0b_v67 : Ref sig .tc := ⟨.hbm, 100, rfl⟩
abbrev main_while0b_v68 : Ref sig .tc := ⟨.hbm, 101, rfl⟩
abbrev main_while0b_v69 : Ref sig .tc := ⟨.hbm, 102, rfl⟩
abbrev main_while0b_v70 : Ref sig .tc := ⟨.hbm, 103, rfl⟩
abbrev main_while0b_v71 : Ref sig .tc := ⟨.hbm, 104, rfl⟩
abbrev main_while0b_v72 : Ref sig .tc := ⟨.hbm, 105, rfl⟩
abbrev main_while0b_v73 : Ref sig .tc := ⟨.hbm, 106, rfl⟩
abbrev main_while0b_v74 : Ref sig .tc := ⟨.hbm, 107, rfl⟩
abbrev main_while0b_v75 : Ref sig .tc := ⟨.hbm, 108, rfl⟩
abbrev main_while0b_v76 : Ref sig .tc := ⟨.hbm, 109, rfl⟩
abbrev main_while0b_v77 : Ref sig .tc := ⟨.hbm, 110, rfl⟩
abbrev main_while0b_v78 : Ref sig .tc := ⟨.hbm, 111, rfl⟩
abbrev main_while0b_v79 : Ref sig .tc := ⟨.hbm, 112, rfl⟩
abbrev main_while0b_call5_v0 : Ref sig .tc := ⟨.hbm, 113, rfl⟩
abbrev main_while0b_call5_c : Ref sig .tc := ⟨.hbm, 114, rfl⟩
abbrev main_while0b_call5_c_0 : Ref sig .tc := ⟨.hbm, 115, rfl⟩
abbrev main_while0b_call5_c_1 : Ref sig .tc := ⟨.hbm, 116, rfl⟩
abbrev main_while0b_v80 : Ref sig .tc := ⟨.hbm, 117, rfl⟩
abbrev main_while0b_c_16 : Ref sig .tc := ⟨.hbm, 118, rfl⟩
abbrev main_while0b_v81 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩

abbrev nD : Nat := 1
abbrev τ : Topo := Topo.v7x

variable {F : FTy → Type} [FloatOps F]

abbrev main_while0_count : Scf.Loop 32 := ⟨0#32, 64#32, 1#32⟩
-- ==== Proof.HebbMath.lean ====
/- The mathematics of the decayed Hebbian memory over the reals, with no program in sight: the memory before a time, what
   it answers at a time, and how both advance by a chunk of any length. -/
module

public import Mathlib.Analysis.SpecialFunctions.Pow.Real
public import Mathlib.Data.EReal.Operations

@[expose] public section

noncomputable section

namespace Cert.HebbMath

open Finset

variable {n : ℕ}

/-- The key written at time `t`: the row read one step before, zero at the start. -/
def key (x : ℕ → Fin n → ℝ) (t : ℕ) (d : Fin n) : ℝ := if t = 0 then 0 else x (t - 1) d

/-- The value written at time `t`: the row of that time through the write matrix. -/
def val (x : ℕ → Fin n → ℝ) (ww : Fin n → Fin n → ℝ) (t : ℕ) (e : Fin n) : ℝ := ∑ d, x t d * ww e d

/-- The memory before time `t`: the outer products written so far, each decayed by its age. -/
def mem (γ : ℝ) (k v : ℕ → Fin n → ℝ) (t : ℕ) (d e : Fin n) : ℝ :=
  ∑ s ∈ range t, γ ^ (t - 1 - s) * (k s d * v s e)

/-- The weight a write at position `k` of a chunk has for a read at position `r` of the same chunk. -/
def weight (γ : ℝ) (r k : ℕ) : ℝ := if k < r then γ ^ (r - 1 - k) else 0

/-- What the memory before time `t` answers to the query `q`. -/
def answer (γ : ℝ) (q : Fin n → ℝ) (k v : ℕ → Fin n → ℝ) (t : ℕ) (e : Fin n) : ℝ :=
  ∑ d, q d * mem γ k v t d e

/-- The memory at the start is empty. -/
theorem mem_zero (γ : ℝ) (k v : ℕ → Fin n → ℝ) (d e : Fin n) : mem γ k v 0 d e = 0 := by
  simp [mem]

/-- The memory after a chunk of `C` writes: the old one decayed, plus each new outer product decayed by its age. -/
theorem mem_add (γ : ℝ) (k v : ℕ → Fin n → ℝ) (t C : ℕ) (d e : Fin n) :
    mem γ k v (t + C) d e
      = γ ^ C * mem γ k v t d e + ∑ j : Fin C, k (t + j) d * (v (t + j) e * γ ^ (C - 1 - (j : ℕ))) := by
  unfold mem
  rw [sum_range_add, mul_sum]
  congr 1
  · refine sum_congr rfl fun s hs => ?_
    have hs' := mem_range.mp hs
    rw [show t + C - 1 - s = C + (t - 1 - s) by omega, pow_add]
    ring
  · rw [← Fin.sum_univ_eq_sum_range (fun j => γ ^ (t + C - 1 - (t + j)) * (k (t + j) d * v (t + j) e)) C]
    refine sum_congr rfl fun j _ => ?_
    rw [show t + C - 1 - (t + (j : ℕ)) = C - 1 - j by omega]
    ring

/-- A sum over a chunk's earlier positions is the sum over the whole chunk with the later ones weighted zero. -/
theorem sum_weight (γ : ℝ) (C i : ℕ) (hi : i < C) (f : ℕ → ℝ) :
    ∑ j : Fin i, f j * γ ^ (i - 1 - (j : ℕ)) = ∑ j : Fin C, f j * weight γ i j := by
  rw [Fin.sum_univ_eq_sum_range (fun j => f j * γ ^ (i - 1 - j)) i,
    Fin.sum_univ_eq_sum_range (fun j => f j * weight γ i j) C]
  have hsub : range i ⊆ range C := fun a ha => mem_range.mpr (lt_trans (mem_range.mp ha) hi)
  rw [← sum_subset hsub (fun a _ ha => ?_)]
  · refine sum_congr rfl fun j hj => ?_
    rw [weight, if_pos (mem_range.mp hj)]
  · rw [weight, if_neg (fun h => ha (mem_range.mpr h)), mul_zero]

/-- What the memory answers inside a chunk: the chunk's starting memory decayed, plus the chunk's own earlier writes. -/
theorem answer_add (γ : ℝ) (q : Fin n → ℝ) (k v : ℕ → Fin n → ℝ) (t C i : ℕ) (hi : i < C) (e : Fin n) :
    answer γ q k v (t + i) e
      = (∑ d, (q d * γ ^ i) * mem γ k v t d e)
        + ∑ j : Fin C, ((∑ d, q d * k (t + j) d) * weight γ i j) * v (t + j) e := by
  unfold answer
  simp only [mem_add, mul_add, sum_add_distrib]
  congr 1
  · exact sum_congr rfl fun d _ => by ring
  · have h : ∀ j : Fin C, ((∑ d, q d * k (t + j) d) * weight γ i j) * v (t + j) e
        = (fun j : ℕ => (∑ d, q d * k (t + j) d) * v (t + j) e) j * weight γ i j := fun j => by
      dsimp only; ring
    rw [sum_congr rfl fun j _ => h j, ← sum_weight γ C i hi (fun j => (∑ d, q d * k (t + j) d) * v (t + j) e)]
    simp only [mul_sum, sum_mul]
    rw [sum_comm]
    exact sum_congr rfl fun j _ => sum_congr rfl fun d _ => by ring

/-- The whole layer at time `t`: the row, plus the scaled read-out of the memory's answer to it. The read weight and the
scale may be infinite. -/
def layer (γ : ℝ) (x : ℕ → Fin n → ℝ) (ww : Fin n → Fin n → ℝ) (wr : Fin n → Fin n → EReal) (α : EReal) (t : ℕ) (f : Fin n) : EReal :=
  ((x t f : ℝ) : EReal) + ∑ e, ((answer γ (x t) (key x) (val x ww) t e : ℝ) : EReal) * (wr f e * α)

/-- A finite nonnegative factor moves into a finite sum, whatever the terms. -/
theorem mul_sum_of_nonneg {ι : Type*} (s : Finset ι) {α : EReal} (h0 : 0 ≤ α) (h1 : α ≠ ⊤) (f : ι → EReal) :
    α * ∑ k ∈ s, f k = ∑ k ∈ s, α * f k := by
  classical
  induction s using Finset.induction_on with
  | empty => simp
  | insert a s ha ih => rw [sum_insert ha, sum_insert ha, EReal.left_distrib_of_nonneg_of_ne_top h0 h1, ih]

/-- The exponential of a multiple of a logarithm is a power. -/
theorem exp_mul_log {γ : ℝ} (h : 0 < γ) (p : ℕ) : Real.exp ((p : ℝ) * Real.log γ) = γ ^ p := by
  rw [Real.exp_nat_mul, Real.exp_log h]

/-- A finite sum of reals, read in the extended reals. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [sum_insert ha, sum_insert ha, ih, EReal.coe_add]

/-- A finite sum of products of reals, read in the extended reals. -/
theorem coe_sum_mul {ι : Type*} (s : Finset ι) (f g : ι → ℝ) :
    ∑ k ∈ s, ((f k : ℝ) : EReal) * ((g k : ℝ) : EReal) = ((∑ k ∈ s, f k * g k : ℝ) : EReal) := by
  rw [← coe_sum]
  exact sum_congr rfl fun k _ => (EReal.coe_mul _ _).symm

end Cert.HebbMath

end
-- ==== Proof.HebbTile.lean ====
/- One body of the idealized kernel on one batch row of its tile, read at an index over the reals: the tables of powers
   of the decay, the shifted keys, the values, the output tile and the memory it leaves. -/
module

public import proofs.«01_k».proof.Proof.HebbMath
public import proofs.«01_k».proof.Proof.Gen.KernelIdeal.Skeleton
public import Idealize.ShloMosaic.Lib.Pipeline.Value
public import Idealize.ShloMosaic.Lib.MatmulPlain
public import Idealize.ShloMosaic.Lib.ValueIdx

@[expose] public section

set_option maxRecDepth 16384

noncomputable section

namespace Cert.HebbTile

open Idealize.ShloMosaic Idealize.ShloMosaic.ValueIdx
open Cert.KernelIdeal Cert.KernelIdeal.Gen Cert.HebbMath

/-! ## Constants and tables -/

/-- The word of `1.0` is one. -/
theorem word_one : Ideal.ofBits .f32 0x3F800000#32 = ((1 : ℝ) : EReal) := by
  simp [Ideal.ofBits, Ideal.ieee, -EReal.coe_mul]; norm_num

/-- The word of `511.0` is 511. -/
theorem word_last : Ideal.ofBits .f32 0x43FF8000#32 = ((511 : ℝ) : EReal) := by
  simp [Ideal.ofBits, Ideal.ieee, -EReal.coe_mul]; norm_num

/-- The word of `0.0` at single width is zero. -/
theorem word_zero : Ideal.ofBits .f32 0x00000000#32 = ((0 : ℝ) : EReal) := by
  simp [Ideal.ofBits, Ideal.ieee, -EReal.coe_mul]

/-- The word of `0.0` at half width is zero. -/
theorem half_zero : Ideal.ofBits .bf16 0x0000#16 = ((0 : ℝ) : EReal) := by
  simp [Ideal.ofBits, Ideal.ieee, -EReal.coe_mul]

/-- A small natural number's 32-bit word converts to that number. -/
theorem word_nat (k : ℕ) (h : k < 4096) :
    (FloatOps.sitofp (F := Ideal) .f32 (BitVec.ofNat 32 k)) = (((k : ℕ) : ℝ) : EReal) := by
  have e : (BitVec.ofNat 32 k).toInt = (k : ℤ) := by
    rw [BitVec.toInt_ofNat']; simp only [Int.bmod]; omega
  show (((BitVec.ofNat 32 k).toInt : ℝ) : EReal) = _
  rw [e]; simp

/-- The row-number column reads its row. -/
theorem rows_at (r : Fin 512) : k0_pay4 (F := Ideal) (ix2 r 0) = (((r : ℕ) : ℝ) : EReal) := by
  unfold k0_pay4
  rw [sitofp_apply, iota_single_apply]
  exact word_nat r.val (by omega)

/-- The exponentials of the multiples of `L` are the powers of the decay, as they are of its logarithm. -/
def Powers (γ : ℝ) (L : EReal) : Prop := ∀ k : ℕ, Ideal.exp (((k : ℝ) : EReal) * L) = ((γ ^ k : ℝ) : EReal)

/-- The read decay of row `r` is the decay to the power `r`. -/
theorem readDecay_at {γ : ℝ} {L : EReal} (h : Powers γ L) (r : Fin 512) :
    k0_pay5 (F := Ideal) L (ix2 r 0) = ((γ ^ (r : ℕ) : ℝ) : EReal) := by
  have e : k0_pay5 (F := Ideal) L (ix2 r 0)
      = Ideal.exp (k0_pay4 (F := Ideal) (ix2 r 0) * L) := rfl
  rw [e, rows_at]
  exact h r

/-- The write decay of row `r` is the decay to the power of the rows left after it. -/
theorem writeDecay_at {γ : ℝ} {L : EReal} (h : Powers γ L) (r : Fin 512) :
    k0_pay6 (F := Ideal) L (ix2 r 0) = ((γ ^ (512 - 1 - (r : ℕ)) : ℝ) : EReal) := by
  have e : k0_pay6 (F := Ideal) L (ix2 r 0)
      = Ideal.exp ((Ideal.ofBits .f32 0x43FF8000#32 - k0_pay4 (F := Ideal) (ix2 r 0)) * L) := rfl
  rw [e, rows_at, word_last, ← EReal.coe_sub]
  have hr : (511 : ℝ) - ((r : ℕ) : ℝ) = ((512 - 1 - (r : ℕ) : ℕ) : ℝ) := by
    rw [Nat.cast_sub (by omega : (r : ℕ) ≤ 512 - 1)]; norm_num
  rw [hr, h]

/-- The mask of powers: the weight of position `k` for a read at row `r`. -/
theorem mask_at {γ : ℝ} {L : EReal} (h : Powers γ L) (r k : Fin 512) :
    k0_pay3 (F := Ideal) L (ix2 r k) = ((weight γ r k : ℝ) : EReal) := by
  unfold k0_pay3
  dsimp only
  rw [shapeCast_self, select_apply, cmpf_apply, sitofp_apply, sitofp_apply, iota_single_apply, iota_single_apply,
    word_nat _ (by show (r : ℕ) < 4096; omega), word_nat _ (by show (k : ℕ) < 4096; omega)]
  by_cases hk : k < r
  · have hk' : ((k : ℕ) : ℝ) < ((r : ℕ) : ℝ) := by exact_mod_cast hk
    have hc : FloatOps.cmpf (F := Ideal) (φ := .f32) .ogt (((r : ℕ) : ℝ) : EReal) (((k : ℕ) : ℝ) : EReal) = 1#1 := by
      simp [Ideal.cmpf_def, Ideal.cmp, hk]
    have e : ((r : ℕ) : ℝ) - 1 - ((k : ℕ) : ℝ) = (((r : ℕ) - 1 - (k : ℕ) : ℕ) : ℝ) := by
      rw [Nat.cast_sub (by omega), Nat.cast_sub (by omega)]; norm_num
    rw [hc, select_one]
    show Ideal.exp (((FloatOps.sitofp (F := Ideal) .f32 (iota .tc S512x512 32 [0] iota_S512x512_d0_w32 (ix2 r k)) - Ideal.ofBits .f32 0x3F800000#32)
      - FloatOps.sitofp (F := Ideal) .f32 (iota .tc S512x512 32 [1] iota_S512x512_d1_w32 (ix2 r k))) * L) = _
    rw [iota_single_apply, iota_single_apply, word_nat _ (by show (r : ℕ) < 4096; omega), word_nat _ (by show (k : ℕ) < 4096; omega),
      word_one, ← EReal.coe_sub]
    show Ideal.exp ((((((r : ℕ) : ℝ) - 1 : ℝ) : EReal) - (((k : ℕ) : ℝ) : EReal)) * L) = _
    rw [← EReal.coe_sub, e, h, weight, if_pos (show (k : ℕ) < (r : ℕ) from hk)]
  · have hk' : ¬ ((k : ℕ) : ℝ) < ((r : ℕ) : ℝ) := by exact_mod_cast hk
    have hc : FloatOps.cmpf (F := Ideal) (φ := .f32) .ogt (((r : ℕ) : ℝ) : EReal) (((k : ℕ) : ℝ) : EReal) = 0#1 := by
      simp [Ideal.cmpf_def, Ideal.cmp, hk]
    rw [weight, if_neg (show ¬ (k : ℕ) < (r : ℕ) from hk), ← word_zero]
    refine Eq.trans (congrArg (fun b => Scalar.select b _ _) hc) (select_zero _ _)

/-! ## The five products -/

/-- Rows against rows, the second operand any extended reals. -/
theorem readOut_at {φ₁ φ₂ : FTy} (lhs : FVec Ideal S512x1024 φ₁) (rhs : FVec Ideal S1024x1024 φ₂) (r : Fin 512) (e : Fin 1024)
    (f : Fin 1024 → ℝ) (g : Fin 1024 → EReal) (hl : ∀ k, lhs (ix2 r k) = ((f k : ℝ) : EReal)) (hg : ∀ k, rhs (ix2 e k) = g k) :
    matmul dot_S512x1024_S1024x1024_S512x1024_1_1_0_0_n_n none lhs rhs (constant S512x1024 .f32 0x00000000#32) (ix2 r e)
      = ∑ k, ((f k : ℝ) : EReal) * g k := by
  refine (Ideal.matmul_constant_zero_apply _ none lhs rhs _).trans ?_
  rw [← Equiv.sum_comp (contrEquiv1 dot_S512x1024_S1024x1024_S512x1024_1_1_0_0_n_n 1024 rfl rfl).symm]
  refine Finset.sum_congr rfl fun k _ => congrArg₂ (· * ·) ?_ ?_
  · refine Eq.trans (congrArg lhs (funext fun a => Fin.ext ?_)) (hl k)
    match a with
    | ⟨0, _⟩ => rfl
    | ⟨1, _⟩ => rfl
  · refine Eq.trans (congrArg rhs (funext fun a => Fin.ext ?_)) (hg k)
    match a with
    | ⟨0, _⟩ => rfl
    | ⟨1, _⟩ => rfl

/-- A product with a one-axis contraction of finite factors is the real sum of products. -/
theorem product_at {sl sr so : Shape} {φ₁ φ₂ : FTy} (D : DotDims sl sr so) (n : ℕ) (hr : D.contr.rank = 1)
    (hs : D.contr.size ⟨0, by omega⟩ = n) (lhs : FVec Ideal sl φ₁) (rhs : FVec Ideal sr φ₂) (j : so.Idx) (f g : Fin n → ℝ)
    (hl : ∀ k, lhs (D.lhsIdx j ((contrEquiv1 D n hr hs).symm k)) = ((f k : ℝ) : EReal))
    (hg : ∀ k, rhs (D.rhsIdx j ((contrEquiv1 D n hr hs).symm k)) = ((g k : ℝ) : EReal)) :
    matmul D none lhs rhs (constant so .f32 0x00000000#32) j = ((∑ k, f k * g k : ℝ) : EReal) := by
  refine (Ideal.matmul_constant_zero_apply D none lhs rhs j).trans ?_
  rw [← Equiv.sum_comp (contrEquiv1 D n hr hs).symm, ← coe_sum_mul]
  exact Finset.sum_congr rfl fun k _ => by rw [hl k, hg k]

/-- Rows against rows, 1024 wide: a [512,1024] operand with a [1024,1024] one. -/
theorem rowsWide_at {φ₁ φ₂ : FTy} (lhs : FVec Ideal S512x1024 φ₁) (rhs : FVec Ideal S1024x1024 φ₂) (r : Fin 512) (e : Fin 1024)
    (f g : Fin 1024 → ℝ) (hl : ∀ k, lhs (ix2 r k) = ((f k : ℝ) : EReal)) (hg : ∀ k, rhs (ix2 e k) = ((g k : ℝ) : EReal)) :
    matmul dot_S512x1024_S1024x1024_S512x1024_1_1_0_0_n_n none lhs rhs (constant S512x1024 .f32 0x00000000#32) (ix2 r e)
      = ((∑ k, f k * g k : ℝ) : EReal) := by
  refine product_at _ 1024 rfl rfl lhs rhs _ f g (fun k => ?_) (fun k => ?_)
  · refine Eq.trans (congrArg lhs (funext fun a => Fin.ext ?_)) (hl k)
    match a with
    | ⟨0, _⟩ => rfl
    | ⟨1, _⟩ => rfl
  · refine Eq.trans (congrArg rhs (funext fun a => Fin.ext ?_)) (hg k)
    match a with
    | ⟨0, _⟩ => rfl
    | ⟨1, _⟩ => rfl

/-- Rows against rows of the same tile. -/
theorem rowsTile_at {φ₁ φ₂ : FTy} (lhs : FVec Ideal S512x1024 φ₁) (rhs : FVec Ideal S512x1024 φ₂) (r k : Fin 512)
    (f g : Fin 1024 → ℝ) (hl : ∀ d, lhs (ix2 r d) = ((f d : ℝ) : EReal)) (hg : ∀ d, rhs (ix2 k d) = ((g d : ℝ) : EReal)) :
    matmul dot_S512x1024_S512x1024_S512x512_1_1_0_0_n_n none lhs rhs (constant S512x512 .f32 0x00000000#32) (ix2 r k)
      = ((∑ d, f d * g d : ℝ) : EReal) := by
  refine product_at _ 1024 rfl rfl lhs rhs _ f g (fun d => ?_) (fun d => ?_)
  · refine Eq.trans (congrArg lhs (funext fun a => Fin.ext ?_)) (hl d)
    match a with
    | ⟨0, _⟩ => rfl
    | ⟨1, _⟩ => rfl
  · refine Eq.trans (congrArg rhs (funext fun a => Fin.ext ?_)) (hg d)
    match a with
    | ⟨0, _⟩ => rfl
    | ⟨1, _⟩ => rfl

/-- Rows against columns of the memory. -/
theorem query_at {φ₁ φ₂ : FTy} (lhs : FVec Ideal S512x1024 φ₁) (rhs : FVec Ideal S1024x1024 φ₂) (r : Fin 512) (e : Fin 1024)
    (f g : Fin 1024 → ℝ) (hl : ∀ k, lhs (ix2 r k) = ((f k : ℝ) : EReal)) (hg : ∀ k, rhs (ix2 k e) = ((g k : ℝ) : EReal)) :
    matmul dot_S512x1024_S1024x1024_S512x1024_1_0_0_1_n_n none lhs rhs (constant S512x1024 .f32 0x00000000#32) (ix2 r e)
      = ((∑ k, f k * g k : ℝ) : EReal) := by
  refine product_at _ 1024 rfl rfl lhs rhs _ f g (fun k => ?_) (fun k => ?_)
  · refine Eq.trans (congrArg lhs (funext fun a => Fin.ext ?_)) (hl k)
    match a with
    | ⟨0, _⟩ => rfl
    | ⟨1, _⟩ => rfl
  · refine Eq.trans (congrArg rhs (funext fun a => Fin.ext ?_)) (hg k)
    match a with
    | ⟨0, _⟩ => rfl
    | ⟨1, _⟩ => rfl

/-- The weighted scores against the values of the tile. -/
theorem scores_at {φ₁ φ₂ : FTy} (lhs : FVec Ideal S512x512 φ₁) (rhs : FVec Ideal S512x1024 φ₂) (r : Fin 512) (e : Fin 1024)
    (f g : Fin 512 → ℝ) (hl : ∀ k, lhs (ix2 r k) = ((f k : ℝ) : EReal)) (hg : ∀ k, rhs (ix2 k e) = ((g k : ℝ) : EReal)) :
    matmul dot_S512x512_S512x1024_S512x1024_1_0_0_1_n_n none lhs rhs (constant S512x1024 .f32 0x00000000#32) (ix2 r e)
      = ((∑ k, f k * g k : ℝ) : EReal) := by
  refine product_at _ 512 rfl rfl lhs rhs _ f g (fun k => ?_) (fun k => ?_)
  · refine Eq.trans (congrArg lhs (funext fun a => Fin.ext ?_)) (hl k)
    match a with
    | ⟨0, _⟩ => rfl
    | ⟨1, _⟩ => rfl
  · refine Eq.trans (congrArg rhs (funext fun a => Fin.ext ?_)) (hg k)
    match a with
    | ⟨0, _⟩ => rfl
    | ⟨1, _⟩ => rfl

/-- Keys against values over the rows of the tile: the outer products' sum. -/
theorem outer_at {φ₁ φ₂ : FTy} (lhs : FVec Ideal S512x1024 φ₁) (rhs : FVec Ideal S512x1024 φ₂) (d e : Fin 1024)
    (f g : Fin 512 → ℝ) (hl : ∀ k, lhs (ix2 k d) = ((f k : ℝ) : EReal)) (hg : ∀ k, rhs (ix2 k e) = ((g k : ℝ) : EReal)) :
    matmul dot_S512x1024_S512x1024_S1024x1024_0_0_1_1_n_n none lhs rhs (constant S1024x1024 .f32 0x00000000#32) (ix2 d e)
      = ((∑ k, f k * g k : ℝ) : EReal) := by
  refine product_at _ 512 rfl rfl lhs rhs _ f g (fun k => ?_) (fun k => ?_)
  · refine Eq.trans (congrArg lhs (funext fun a => Fin.ext ?_)) (hl k)
    match a with
    | ⟨0, _⟩ => rfl
    | ⟨1, _⟩ => rfl
  · refine Eq.trans (congrArg rhs (funext fun a => Fin.ext ?_)) (hg k)
    match a with
    | ⟨0, _⟩ => rfl
    | ⟨1, _⟩ => rfl

/-! ## One batch row of the body -/

section Row

variable (v22 : Vec Ideal S1x1x512x1024 .f32) (v25 : Vec Ideal S1x1024 .f32) (v17 v19 : Vec Ideal S1024x1024 .bf16)
  (M : Vec Ideal S512x512 .f32) (S : Vec Ideal S1x1024x1024 .bf16)
  (γ : ℝ) (L α : EReal) (x : ℕ → Fin 1024 → ℝ) (ww : Fin 1024 → Fin 1024 → ℝ) (wr : Fin 1024 → Fin 1024 → EReal) (n : ℕ)

/-- The tile with its two unit axes dropped. -/
theorem tile_at (hx : ∀ r d, v22 (ix4 0 0 r d) = ((x (n + (r : ℕ)) d : ℝ) : EReal)) (r : Fin 512) (d : Fin 1024) :
    k0_pay9 v22 (ix2 r d) = ((x (n + (r : ℕ)) d : ℝ) : EReal) := by
  unfold k0_pay9
  rw [← hx]
  refine shapeCast_apply _ _ _ _ ?_
  rw [Shape.rowMajor_val_four, Shape.rowMajor_val_two]
  show ((0 * 1 + 0) * 512 + (r : ℕ)) * 1024 + (d : ℕ) = (r : ℕ) * 1024 + (d : ℕ)
  omega

/-- The row kept for the next tile is the key its first position will write. -/
theorem last_at (hx : ∀ r d, v22 (ix4 0 0 r d) = ((x (n + (r : ℕ)) d : ℝ) : EReal)) (d : Fin 1024) :
    k0_pay11 v22 (ix2 0 d) = ((key x (n + 512) d : ℝ) : EReal) := by
  unfold k0_pay11
  rw [shapeCast_self, extractStridedSlice_apply _ _ _ _ (ix2 (511 : Fin 512) d), tile_at v22 x n hx]
  · rfl
  · intro a
    match a with
    | ⟨0, _⟩ => rfl
    | ⟨1, _⟩ => exact (Nat.zero_add _).symm

/-- The keys of the tile: its rows moved one down under the kept row. -/
theorem keys_at (hx : ∀ r d, v22 (ix4 0 0 r d) = ((x (n + (r : ℕ)) d : ℝ) : EReal))
    (hp : ∀ d, v25 (ix2 0 d) = ((key x n d : ℝ) : EReal)) (k : Fin 512) (d : Fin 1024) :
    k0_pay12 v22 v25 (ix2 k d) = ((key x (n + (k : ℕ)) d : ℝ) : EReal) := by
  unfold k0_pay12
  rw [truncf_apply]
  by_cases hk : (k : ℕ) = 0
  · refine (concatenate_pair_apply_left (t := S512x1024) (s₁ := S1x1024) (s₂ := S511x1024) 0 _ _ _ (ix2 k d) rfl (ix2 (0 : Fin 1) d) ?_).trans ?_
    rotate_left
    · rw [hp, hk]; rfl
    · intro b
      match b with
      | ⟨0, _⟩ => exact hk.symm
      | ⟨1, _⟩ => rfl
  · refine (concatenate_pair_apply_right (t := S512x1024) (s₁ := S1x1024) (s₂ := S511x1024) 0 _ _ _ (ix2 k d) rfl rfl
      (ix2 (⟨(k : ℕ) - 1, by omega⟩ : Fin 511) d) ?_ ?_).trans ?_
    rotate_left 2
    rw [extractStridedSlice_apply _ _ _ _ (ix2 (⟨(k : ℕ) - 1, by omega⟩ : Fin 512) d), tile_at v22 x n hx]
    · rw [key, if_neg (by omega)]
      show ((x (n + ((k : ℕ) - 1)) d : ℝ) : EReal) = _
      rw [show n + ((k : ℕ) - 1) = n + (k : ℕ) - 1 by omega]
    · intro a
      match a with
      | ⟨0, _⟩ => exact (Nat.zero_add _).symm
      | ⟨1, _⟩ => exact (Nat.zero_add _).symm
    · intro b hb
      match b with
      | ⟨0, _⟩ => exact absurd rfl hb
      | ⟨1, _⟩ => rfl
    · show (k : ℕ) - 1 + 1 = (k : ℕ)
      omega

/-- The values of the tile. -/
theorem vals_at (hx : ∀ r d, v22 (ix4 0 0 r d) = ((x (n + (r : ℕ)) d : ℝ) : EReal))
    (hw : ∀ e d, v17 (ix2 e d) = ((ww e d : ℝ) : EReal)) (k : Fin 512) (e : Fin 1024) :
    k0_pay13 v17 v22 (ix2 k e) = ((val x ww (n + (k : ℕ)) e : ℝ) : EReal) := by
  unfold k0_pay13
  rw [truncf_apply]
  refine rowsWide_at _ _ k e _ _ (fun d => ?_) (fun d => ?_)
  · exact tile_at v22 x n hx k d
  · unfold k0_pay7
    rw [shapeCast_self]
    exact hw e d

/-- THE MEMORY the body leaves: the one it found, advanced by the tile's 512 writes. -/
theorem memory_at (hγ : Powers γ L) (hx : ∀ r d, v22 (ix4 0 0 r d) = ((x (n + (r : ℕ)) d : ℝ) : EReal))
    (hp : ∀ d, v25 (ix2 0 d) = ((key x n d : ℝ) : EReal)) (hw : ∀ e d, v17 (ix2 e d) = ((ww e d : ℝ) : EReal))
    (hS : ∀ d e, S (ix3 0 d e) = ((mem γ (key x) (val x ww) n d e : ℝ) : EReal)) (d e : Fin 1024) :
    k0_pay15 ((γ ^ 512 : ℝ) : EReal) (k0_pay6 L) (k0_pay12 v22 v25) (k0_pay13 v17 v22) S (ix3 0 d e)
      = ((mem γ (key x) (val x ww) (n + 512) d e : ℝ) : EReal) := by
  unfold k0_pay15
  rw [shapeCast_apply _ _ _ (ix2 d e)]
  · rw [addf_apply, mulf_apply, truncf_apply, broadcast_apply, shapeCast_apply _ _ _ (ix3 0 d e), hS,
      outer_at _ _ d e (fun k => key x (n + (k : ℕ)) d) (fun k => val x ww (n + (k : ℕ)) e * γ ^ (512 - 1 - (k : ℕ)))
        (fun k => keys_at v22 v25 x n hx hp k d) (fun k => ?_), mem_add, EReal.coe_add, EReal.coe_mul]
    · rfl
    · rw [mulf_apply, vals_at v22 v17 x ww n hx hw, broadcastTo_apply _ _ _ (ix2 k 0), writeDecay_at hγ, EReal.coe_mul]
      intro a
      match a with
      | ⟨0, _⟩ => rfl
      | ⟨1, _⟩ => rfl
    · rw [Shape.rowMajor_val_three, Shape.rowMajor_val_two]
      show (0 * 1024 + (d : ℕ)) * 1024 + (e : ℕ) = (d : ℕ) * 1024 + (e : ℕ)
      omega
  · rw [Shape.rowMajor_val_three, Shape.rowMajor_val_two]
    show (d : ℕ) * 1024 + (e : ℕ) = (0 * 1024 + (d : ℕ)) * 1024 + (e : ℕ)
    omega

/-- THE OUTPUT of the body on one batch row: the layer at the tile's 512 times. -/
theorem output_at (hγ : Powers γ L) (hx : ∀ r d, v22 (ix4 0 0 r d) = ((x (n + (r : ℕ)) d : ℝ) : EReal))
    (hp : ∀ d, v25 (ix2 0 d) = ((key x n d : ℝ) : EReal)) (hw : ∀ e d, v17 (ix2 e d) = ((ww e d : ℝ) : EReal))
    (hr : ∀ f e, v19 (ix2 f e) = wr f e * α)
    (hM : ∀ r k, M (ix2 r k) = ((weight γ (r : ℕ) (k : ℕ) : ℝ) : EReal))
    (hS : ∀ d e, S (ix3 0 d e) = ((mem γ (key x) (val x ww) n d e : ℝ) : EReal)) (r : Fin 512) (f : Fin 1024) :
    k0_pay14 (k0_pay5 L) (k0_pay8 v19) M (k0_pay9 v22) (k0_pay10 v22) (k0_pay12 v22 v25) (k0_pay13 v17 v22)
        (constant S512x512 .f32 0x00000000#32) S (ix4 0 0 r f)
      = layer γ x ww wr α (n + (r : ℕ)) f := by
  unfold k0_pay14
  rw [shapeCast_apply _ _ _ (ix2 r f)]
  · rw [addf_apply, tile_at v22 x n hx,
      readOut_at _ _ r f (fun e => answer γ (x (n + (r : ℕ))) (key x) (val x ww) (n + (r : ℕ)) e) (fun e => wr f e * α)
        (fun e => ?_) (fun e => ?_), layer]
    · rw [truncf_apply, addf_apply, answer_add γ _ _ _ n 512 (r : ℕ) r.isLt e, EReal.coe_add]
      congr 1
      · refine query_at _ _ r e _ _ (fun d => ?_) (fun d => ?_)
        · rw [mulf_apply, broadcastTo_apply _ _ _ (ix2 r 0), readDecay_at hγ, EReal.coe_mul]
          · exact congrArg (· * _) (tile_at v22 x n hx r d)
          · intro a
            match a with
            | ⟨0, _⟩ => rfl
            | ⟨1, _⟩ => rfl
        · rw [← hS]
          refine shapeCast_apply _ _ _ _ ?_
          rw [Shape.rowMajor_val_three, Shape.rowMajor_val_two]
          show (0 * 1024 + (d : ℕ)) * 1024 + (e : ℕ) = (d : ℕ) * 1024 + (e : ℕ)
          omega
      · refine scores_at _ _ r e _ _ (fun k => ?_) (fun k => vals_at v22 v17 x ww n hx hw k e)
        rw [truncf_apply, mulf_apply, hM, EReal.coe_mul]
        refine congrArg (· * _) (rowsTile_at _ _ r k _ _ (fun d => ?_) (fun d => keys_at v22 v25 x n hx hp k d))
        exact tile_at v22 x n hx r d
    · unfold k0_pay8
      rw [shapeCast_self]
      exact hr f e
  · rw [Shape.rowMajor_val_four, Shape.rowMajor_val_two]
    show (r : ℕ) * 1024 + (f : ℕ) = ((0 * 1 + 0) * 512 + (r : ℕ)) * 1024 + (f : ℕ)
    omega

end Row

end Cert.HebbTile

end
-- ==== Proof.HebbPieces.lean ====
module

public import proofs.«01_k».proof.Proof.HebbTile
public import proofs.«01_k».proof.Proof.Gen.KernelIdeal.Frame
public import Idealize.ShloMosaic.Lib.Pipeline.ValueKit.Tiles

@[expose] public section

set_option maxRecDepth 16384

noncomputable section

open Idealize.ShloMosaic Idealize.ShloMosaic.ValueIdx Cert.KernelIdeal Cert.KernelIdeal.Gen Cert.HebbMath Cert.HebbTile

/-! What one grid point leaves in its output block and in the scratch it carries, from what it found there. -/

namespace Cert.HebbPieces

/-! ## Reading the stores back -/

/-- At an index the last store wrote, the contents are that store's value. -/
theorem top_at {s : Shape} {e : EltTy} (off size : Fin s.rank → ℕ) (inb) (w : (Rect.unit (s := s) off size inb).shape.Idx → Elt Ideal e)
    (L : List (View.Piece (Elt Ideal) s e)) (y : s.Idx) (x : (Rect.unit (s := s) off size inb).shape.Idx) (h : ∀ a, (y a : ℕ) = off a + x a) :
    View.canon (⟨Rect.unit off size inb, w⟩ :: L) y = w x := by
  have hy : y = (Rect.unit off size inb).emb x := funext fun a => Fin.ext ((h a).trans (Rect.idx_unit_val off size inb x a).symm)
  rw [hy]
  exact View.canon_cons_emb _ _ _ _

/-- At an index off the last store, the contents are those of the stores before. -/
theorem below_at {s : Shape} {e : EltTy} (off size : Fin s.rank → ℕ) (inb) (w : (Rect.unit (s := s) off size inb).shape.Idx → Elt Ideal e)
    (L : List (View.Piece (Elt Ideal) s e)) (y : s.Idx) (a : Fin s.rank) (h : (y a : ℕ) < off a ∨ off a + size a ≤ (y a : ℕ)) :
    View.canon (⟨Rect.unit off size inb, w⟩ :: L) y = View.canon L y := by
  refine View.canon_cons_of_not_mem _ _ fun hm => ?_
  have hm' : y ∈ (Rect.unit off size inb).set := hm
  rw [Rect.mem_set_unit] at hm'
  have := hm' a
  omega

/-! ## What a point reads and what it carries -/

/-- The blocks a grid point reads: the two scalars, two batch rows' tiles of 512 times from time `n`, the two weights. -/
structure Inputs (γ : ℝ) (L α : EReal) (X : Fin 2 → ℕ → Fin 1024 → ℝ) (ww : Fin 1024 → Fin 1024 → ℝ)
    (wr : Fin 1024 → Fin 1024 → EReal) (n : ℕ) (x0 : Vec Ideal S2 .f32) (x1 : Vec Ideal S1x2x512x1024 .f32) (x2 x3 : Vec Ideal S1024x1024 .bf16) : Prop where
  decay : x0 (ix1 0) = L
  carry : x0 (ix1 1) = ((γ ^ 512 : ℝ) : EReal)
  rows : ∀ (g : Fin 2) (r : Fin 512) (d : Fin 1024), x1 (ix4 0 g r d) = ((X g (n + (r : ℕ)) d : ℝ) : EReal)
  write : ∀ e d : Fin 1024, x2 (ix2 e d) = ((ww e d : ℝ) : EReal)
  read : ∀ f e : Fin 1024, x3 (ix2 f e) = wr f e * α

/-- The memory scratch before time `n`. -/
def Memory (γ : ℝ) (X : Fin 2 → ℕ → Fin 1024 → ℝ) (ww : Fin 1024 → Fin 1024 → ℝ) (n : ℕ) (s : Vec Ideal S2x1024x1024 .bf16) : Prop :=
  ∀ (g : Fin 2) (d e : Fin 1024), s (ix3 g d e) = ((mem γ (key (X g)) (val (X g) ww) n d e : ℝ) : EReal)

/-- The kept rows before time `n`: the keys of time `n`. -/
def Kept (X : Fin 2 → ℕ → Fin 1024 → ℝ) (n : ℕ) (p : Vec Ideal S2x1024 .f32) : Prop :=
  ∀ (g : Fin 2) (d : Fin 1024), p (ix2 g d) = ((key (X g) n d : ℝ) : EReal)

/-- The table of weights inside a tile. -/
def Table (γ : ℝ) (w : Vec Ideal S512x512 .f32) : Prop :=
  ∀ r k : Fin 512, w (ix2 r k) = ((weight γ (r : ℕ) (k : ℕ) : ℝ) : EReal)

/-- The layer on the two batch rows' tiles. -/
def Layered (γ : ℝ) (α : EReal) (X : Fin 2 → ℕ → Fin 1024 → ℝ) (ww : Fin 1024 → Fin 1024 → ℝ)
    (wr : Fin 1024 → Fin 1024 → EReal) (n : ℕ) (o : Vec Ideal S1x2x512x1024 .f32) : Prop :=
  ∀ (g : Fin 2) (r : Fin 512) (f : Fin 1024), o (ix4 0 g r f) = layer γ (X g) ww wr α (n + (r : ℕ)) f

/-- The first launch's memory is the empty one. -/
theorem memory_empty (γ : ℝ) (X : Fin 2 → ℕ → Fin 1024 → ℝ) (ww : Fin 1024 → Fin 1024 → ℝ) : Memory γ X ww 0 (k0_pay1 (F := Ideal)) := by
  intro g d e
  unfold k0_pay1
  rw [shapeCast_self, mem_zero]
  exact half_zero

/-- The first key is zero. -/
theorem kept_empty (X : Fin 2 → ℕ → Fin 1024 → ℝ) : Kept X 0 (k0_pay2 (F := Ideal)) := by
  intro g d
  unfold k0_pay2
  rw [shapeCast_self, key, if_pos rfl]
  exact word_zero

/-- The table as filled is the table of weights. -/
theorem table_first {γ : ℝ} {L : EReal} (hγ : Powers γ L) : Table γ (k0_pay3 (F := Ideal) L) :=
  fun r k => mask_at hγ r k

section Loads

variable {γ : ℝ} {L α : EReal} {X : Fin 2 → ℕ → Fin 1024 → ℝ} {ww : Fin 1024 → Fin 1024 → ℝ}
  {wr : Fin 1024 → Fin 1024 → EReal} {n : ℕ}
  {x0 : Vec Ideal S2 .f32} {x1 : Vec Ideal S1x2x512x1024 .f32} {x2 x3 : Vec Ideal S1024x1024 .bf16}

/-- The scalar load of the decay's logarithm. -/
theorem load_decay (h : Inputs γ L α X ww wr n x0 x1 x2 x3) (inb) (hp) :
    View.ld x0 (Rect.unit (s := S2) ![0] ![1] inb) (Shape.Idx.first hp) = L :=
  (View.ld_unit_apply_of x0 ![0] ![1] inb _ (ix1 (0 : Fin 2)) (fun a => match a with | ⟨0, _⟩ => rfl)).trans h.decay

/-- The scalar load of the decay across a whole tile. -/
theorem load_carry (h : Inputs γ L α X ww wr n x0 x1 x2 x3) (inb) (hp) :
    View.ld x0 (Rect.unit (s := S2) ![1] ![1] inb) (Shape.Idx.first hp) = ((γ ^ 512 : ℝ) : EReal) :=
  (View.ld_unit_apply_of x0 ![1] ![1] inb _ (ix1 (1 : Fin 2)) (fun a => match a with | ⟨0, _⟩ => rfl)).trans h.carry

/-- The load of the first batch row's tile. -/
theorem load_rows0 (h : Inputs γ L α X ww wr n x0 x1 x2 x3) (inb) (r : Fin 512) (d : Fin 1024) :
    View.ld x1 (Rect.unit (s := S1x2x512x1024) ![0, 0, 0, 0] ![1, 1, 512, 1024] inb) (ix4 (0 : Fin 1) (0 : Fin 1) r d)
      = ((X 0 (n + (r : ℕ)) d : ℝ) : EReal) :=
  (View.ld_unit_apply_of x1 ![0, 0, 0, 0] ![1, 1, 512, 1024] inb _ (ix4 (0 : Fin 1) (0 : Fin 2) r d) (fun a => match a with
    | ⟨0, _⟩ => rfl | ⟨1, _⟩ => rfl | ⟨2, _⟩ => (Nat.zero_add _).symm | ⟨3, _⟩ => (Nat.zero_add _).symm)).trans (h.rows 0 r d)

/-- The load of the second batch row's tile. -/
theorem load_rows1 (h : Inputs γ L α X ww wr n x0 x1 x2 x3) (inb) (r : Fin 512) (d : Fin 1024) :
    View.ld x1 (Rect.unit (s := S1x2x512x1024) ![0, 1, 0, 0] ![1, 1, 512, 1024] inb) (ix4 (0 : Fin 1) (0 : Fin 1) r d)
      = ((X 1 (n + (r : ℕ)) d : ℝ) : EReal) :=
  (View.ld_unit_apply_of x1 ![0, 1, 0, 0] ![1, 1, 512, 1024] inb _ (ix4 (0 : Fin 1) (1 : Fin 2) r d) (fun a => match a with
    | ⟨0, _⟩ => rfl | ⟨1, _⟩ => rfl | ⟨2, _⟩ => (Nat.zero_add _).symm | ⟨3, _⟩ => (Nat.zero_add _).symm)).trans (h.rows 1 r d)

/-- The load of a whole weight. -/
theorem load_weight (x : Vec Ideal S1024x1024 .bf16) (inb) (e d : Fin 1024) :
    View.ld x (Rect.unit (s := S1024x1024) ![0, 0] ![1024, 1024] inb) (ix2 e d) = x (ix2 e d) :=
  View.ld_unit_apply_of x ![0, 0] ![1024, 1024] inb _ (ix2 e d) (fun a => match a with
    | ⟨0, _⟩ => (Nat.zero_add _).symm | ⟨1, _⟩ => (Nat.zero_add _).symm)

/-- The place of an entry of one batch row's memory in the memory scratch. -/
theorem place_memory (g : Fin 2) (o : Fin 3 → ℕ) (ho : o = ![(g : ℕ), 0, 0]) (inb) (d e : Fin 1024) :
    (Rect.unit (s := S2x1024x1024) o ![1, 1024, 1024] inb).idx (ix3 (0 : Fin 1) d e) = ix3 g d e := by
  subst ho
  refine funext fun a => Fin.ext ((Rect.idx_unit_val _ _ inb _ a).trans ?_)
  match a with
  | ⟨0, _⟩ => rfl
  | ⟨1, _⟩ => exact Nat.zero_add _
  | ⟨2, _⟩ => exact Nat.zero_add _

/-- The place of an entry of one kept row. -/
theorem place_kept (g : Fin 2) (o : Fin 2 → ℕ) (ho : o = ![(g : ℕ), 0]) (inb) (d : Fin 1024) :
    (Rect.unit (s := S2x1024) o ![1, 1024] inb).idx (ix2 (0 : Fin 1) d) = ix2 g d := by
  subst ho
  refine funext fun a => Fin.ext ((Rect.idx_unit_val _ _ inb _ a).trans ?_)
  match a with
  | ⟨0, _⟩ => rfl
  | ⟨1, _⟩ => exact Nat.zero_add _

/-- The place of an entry of the table. -/
theorem place_table (inb) (r k : Fin 512) :
    (Rect.unit (s := S512x512) ![0, 0] ![512, 512] inb).idx (ix2 r k) = ix2 r k := by
  refine funext fun a => Fin.ext ((Rect.idx_unit_val _ _ inb _ a).trans ?_)
  match a with
  | ⟨0, _⟩ => exact Nat.zero_add _
  | ⟨1, _⟩ => exact Nat.zero_add _

/-- Stores of both batch rows' memories: the scratch holds both. -/
theorem memory_of (inb1 inb0) (w1 w0 : S1x1024x1024.Idx → EReal) (L : List (View.Piece (Elt Ideal) S2x1024x1024 .bf16))
    (h0 : ∀ d e, w0 (ix3 0 d e) = ((mem γ (key (X 0)) (val (X 0) ww) n d e : ℝ) : EReal))
    (h1 : ∀ d e, w1 (ix3 0 d e) = ((mem γ (key (X 1)) (val (X 1) ww) n d e : ℝ) : EReal)) :
    Memory γ X ww n (View.canon (⟨Rect.unit (s := S2x1024x1024) ![1, 0, 0] ![1, 1024, 1024] inb1, w1⟩
      :: ⟨Rect.unit (s := S2x1024x1024) ![0, 0, 0] ![1, 1024, 1024] inb0, w0⟩ :: L)) := by
  intro g d e
  match g with
  | ⟨0, _⟩ =>
    refine (below_at _ _ _ _ _ _ (0 : Fin 3) (Or.inl Nat.zero_lt_one)).trans ((top_at _ _ _ _ _ _ (ix3 (0 : Fin 1) d e) fun a => ?_).trans (h0 d e))
    match a with
    | ⟨0, _⟩ => rfl
    | ⟨1, _⟩ => exact (Nat.zero_add _).symm
    | ⟨2, _⟩ => exact (Nat.zero_add _).symm
  | ⟨1, _⟩ =>
    refine (top_at _ _ _ _ _ _ (ix3 (0 : Fin 1) d e) fun a => ?_).trans (h1 d e)
    match a with
    | ⟨0, _⟩ => rfl
    | ⟨1, _⟩ => exact (Nat.zero_add _).symm
    | ⟨2, _⟩ => exact (Nat.zero_add _).symm

/-- Stores of both kept rows: the scratch holds both. -/
theorem kept_of (inb1 inb0) (w1 w0 : S1x1024.Idx → EReal) (L : List (View.Piece (Elt Ideal) S2x1024 .f32))
    (h0 : ∀ d, w0 (ix2 0 d) = ((key (X 0) n d : ℝ) : EReal)) (h1 : ∀ d, w1 (ix2 0 d) = ((key (X 1) n d : ℝ) : EReal)) :
    Kept X n (View.canon (⟨Rect.unit (s := S2x1024) ![1, 0] ![1, 1024] inb1, w1⟩
      :: ⟨Rect.unit (s := S2x1024) ![0, 0] ![1, 1024] inb0, w0⟩ :: L)) := by
  intro g d
  match g with
  | ⟨0, _⟩ =>
    refine (below_at _ _ _ _ _ _ (0 : Fin 2) (Or.inl Nat.zero_lt_one)).trans ((top_at _ _ _ _ _ _ (ix2 (0 : Fin 1) d) fun a => ?_).trans (h0 d))
    match a with
    | ⟨0, _⟩ => rfl
    | ⟨1, _⟩ => exact (Nat.zero_add _).symm
  | ⟨1, _⟩ =>
    refine (top_at _ _ _ _ _ _ (ix2 (0 : Fin 1) d) fun a => ?_).trans (h1 d)
    match a with
    | ⟨0, _⟩ => rfl
    | ⟨1, _⟩ => exact (Nat.zero_add _).symm

/-- Stores of both output tiles: the output block holds both. -/
theorem layered_of (inb1 inb0) (w1 w0 : S1x1x512x1024.Idx → EReal) (L : List (View.Piece (Elt Ideal) S1x2x512x1024 .f32))
    (h0 : ∀ r f, w0 (ix4 0 0 r f) = layer γ (X 0) ww wr α (n + (r : ℕ)) f)
    (h1 : ∀ r f, w1 (ix4 0 0 r f) = layer γ (X 1) ww wr α (n + (r : ℕ)) f) :
    Layered γ α X ww wr n (View.canon (⟨Rect.unit (s := S1x2x512x1024) ![0, 1, 0, 0] ![1, 1, 512, 1024] inb1, w1⟩
      :: ⟨Rect.unit (s := S1x2x512x1024) ![0, 0, 0, 0] ![1, 1, 512, 1024] inb0, w0⟩ :: L)) := by
  intro g r f
  match g with
  | ⟨0, _⟩ =>
    refine (below_at _ _ _ _ _ _ (1 : Fin 4) (Or.inl Nat.zero_lt_one)).trans
      ((top_at _ _ _ _ _ _ (ix4 (0 : Fin 1) (0 : Fin 1) r f) fun a => ?_).trans (h0 r f))
    match a with
    | ⟨0, _⟩ => rfl
    | ⟨1, _⟩ => rfl
    | ⟨2, _⟩ => exact (Nat.zero_add _).symm
    | ⟨3, _⟩ => exact (Nat.zero_add _).symm
  | ⟨1, _⟩ =>
    refine (top_at _ _ _ _ _ _ (ix4 (0 : Fin 1) (0 : Fin 1) r f) fun a => ?_).trans (h1 r f)
    match a with
    | ⟨0, _⟩ => rfl
    | ⟨1, _⟩ => rfl
    | ⟨2, _⟩ => exact (Nat.zero_add _).symm
    | ⟨3, _⟩ => exact (Nat.zero_add _).symm

/-- The kept row of the second batch row, with the first one's store above the fill. -/
theorem second_kept (inb0 inbw) (w : S2x1024.Idx → EReal) (hw : Kept X 0 w) (w0 : S1x1024.Idx → EReal) (d : Fin 1024) :
    View.canon [(⟨Rect.unit (s := S2x1024) ![0, 0] ![1, 1024] inb0, w0⟩ : View.Piece (Elt Ideal) S2x1024 .f32),
      ⟨Rect.unit (s := S2x1024) ![0, 0] ![2, 1024] inbw, w⟩] (ix2 (1 : Fin 2) d) = ((key (X 1) 0 d : ℝ) : EReal) := by
  refine (below_at _ _ _ _ _ _ (0 : Fin 2) (Or.inr le_rfl)).trans ((top_at _ _ _ _ _ _ (ix2 (1 : Fin 2) d) fun a => ?_).trans (hw 1 d))
  match a with
  | ⟨0, _⟩ => rfl
  | ⟨1, _⟩ => exact (Nat.zero_add _).symm

/-- The fill of the kept rows, read back. -/
theorem first_kept (inbw) (w : S2x1024.Idx → EReal) (hw : Kept X 0 w) (d : Fin 1024) :
    View.canon [(⟨Rect.unit (s := S2x1024) ![0, 0] ![2, 1024] inbw, w⟩ : View.Piece (Elt Ideal) S2x1024 .f32)] (ix2 (0 : Fin 2) d)
      = ((key (X 0) 0 d : ℝ) : EReal) := by
  refine (top_at _ _ _ _ _ _ (ix2 (0 : Fin 2) d) fun a => ?_).trans (hw 0 d)
  match a with
  | ⟨0, _⟩ => rfl
  | ⟨1, _⟩ => exact (Nat.zero_add _).symm

/-- The memory of the second batch row, with the first one's store above the fill. -/
theorem second_memory (inb0 inbw) (w : S2x1024x1024.Idx → EReal) (hw : Memory γ X ww 0 w) (w0 : S1x1024x1024.Idx → EReal) (d e : Fin 1024) :
    View.canon [(⟨Rect.unit (s := S2x1024x1024) ![0, 0, 0] ![1, 1024, 1024] inb0, w0⟩ : View.Piece (Elt Ideal) S2x1024x1024 .bf16),
      ⟨Rect.unit (s := S2x1024x1024) ![0, 0, 0] ![2, 1024, 1024] inbw, w⟩] (ix3 (1 : Fin 2) d e)
      = ((mem γ (key (X 1)) (val (X 1) ww) 0 d e : ℝ) : EReal) := by
  refine (below_at _ _ _ _ _ _ (0 : Fin 3) (Or.inr le_rfl)).trans
    ((top_at _ _ _ _ _ _ (ix3 (1 : Fin 2) d e) fun a => ?_).trans (hw 1 d e))
  match a with
  | ⟨0, _⟩ => rfl
  | ⟨1, _⟩ => exact (Nat.zero_add _).symm
  | ⟨2, _⟩ => exact (Nat.zero_add _).symm

/-- The fill of the memory, read back. -/
theorem first_memory (inbw) (w : S2x1024x1024.Idx → EReal) (hw : Memory γ X ww 0 w) (d e : Fin 1024) :
    View.canon [(⟨Rect.unit (s := S2x1024x1024) ![0, 0, 0] ![2, 1024, 1024] inbw, w⟩ : View.Piece (Elt Ideal) S2x1024x1024 .bf16)]
      (ix3 (0 : Fin 2) d e) = ((mem γ (key (X 0)) (val (X 0) ww) 0 d e : ℝ) : EReal) := by
  refine (top_at _ _ _ _ _ _ (ix3 (0 : Fin 2) d e) fun a => ?_).trans (hw 0 d e)
  match a with
  | ⟨0, _⟩ => rfl
  | ⟨1, _⟩ => exact (Nat.zero_add _).symm
  | ⟨2, _⟩ => exact (Nat.zero_add _).symm

/-- The fill of the table, read back. -/
theorem filled_table (inbw) (w : S512x512.Idx → EReal) (hw : Table γ w) : Table γ (View.canon [(⟨Rect.unit (s := S512x512) ![0, 0] ![512, 512] inbw, w⟩ : View.Piece (Elt Ideal) S512x512 .f32)]) := by
  intro r k
  refine (top_at _ _ _ _ _ _ (ix2 r k) fun a => ?_).trans (hw r k)
  match a with
  | ⟨0, _⟩ => exact (Nat.zero_add _).symm
  | ⟨1, _⟩ => exact (Nat.zero_add _).symm

end Loads

/-! ## The two cases of a point -/

variable (c : Dev nD) (i : grid0.Coords) (arg2 : Memref sig .tc .smem S2 .f32) (harg2 : arg2.IsWhole) (arg3 : Memref sig .tc .vmem S1x2x512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x2x512x1024 .f32) (harg6 : arg6.IsWhole) (arg7 : Memref sig .tc .vmem S2x1024x1024 .bf16) (harg7 : arg7.IsWhole) (arg8 : Memref sig .tc .vmem S2x1024 .f32) (harg8 : arg8.IsWhole) (arg9 : Memref sig .tc .vmem S512x512 .f32) (harg9 : arg9.IsWhole)
variable (x0 : Vec Ideal S2 .f32) (x1 : Vec Ideal S1x2x512x1024 .f32) (x2 x3 : Vec Ideal S1024x1024 .bf16)
  (xs0 : Vec Ideal S2x1024x1024 .bf16) (xs1 : Vec Ideal S2x1024 .f32) (xs2 : Vec Ideal S512x512 .f32)
  (γ : ℝ) (L α : EReal) (X : Fin 2 → ℕ → Fin 1024 → ℝ) (ww : Fin 1024 → Fin 1024 → ℝ) (wr : Fin 1024 → Fin 1024 → EReal) (n : ℕ)

/-- The memory a later point of a batch pair leaves. -/
theorem memory_B (hc : ¬cond0_0 i) (hγ : Powers γ L) (h : Inputs γ L α X ww wr n x0 x1 x2 x3) (hS : Memory γ X ww n xs0) (hp : Kept X n xs1) :
    Memory γ X ww (n + 512) (sout0_B_0 c i arg2 harg2 arg3 harg3 arg4 harg4 arg5 harg5 arg6 harg6 arg7 harg7 arg8 harg8 arg9 harg9 hc x0 x1 x2 x3 xs0 xs1 xs2) := by
  unfold sout0_B_0
  rw [View.read_writes_eq_canon _ _ _ (scover0_B_0 c i arg2 harg2 arg3 harg3 arg4 harg4 arg5 harg5 arg6 harg6 arg7 harg7 arg8 harg8 arg9 harg9 hc x0 x1 x2 x3 xs0 xs1 xs2)]
  unfold kernelRun0_B
  dsimp only
  sl_unfold_words
  simp only [View.readAt_eq_ld, View.readCov_eq_canon', harg2.read_unread, harg3.read_unread, harg4.read_unread, harg5.read_unread, harg7.read_unread, harg8.read_unread, harg9.read_unread]
  simp only [load_decay h, load_carry h]
  refine memory_of _ _ _ _ _ (fun d e => ?_) (fun d e => ?_)
  · exact memory_at _ _ _ _ γ L (X 0) ww n hγ (load_rows0 h _) (fun d => (congrArg xs1 (place_kept 0 _ rfl _ d)).trans (hp 0 d)) (fun e d => (load_weight x2 _ e d).trans (h.write e d)) (fun d e => (congrArg xs0 (place_memory 0 _ rfl _ d e)).trans (hS 0 d e)) d e
  · exact memory_at _ _ _ _ γ L (X 1) ww n hγ (load_rows1 h _) (fun d => (congrArg xs1 (place_kept 1 _ rfl _ d)).trans (hp 1 d)) (fun e d => (load_weight x2 _ e d).trans (h.write e d)) (fun d e => (congrArg xs0 (place_memory 1 _ rfl _ d e)).trans (hS 1 d e)) d e

/-- The rows a later point of a batch pair keeps. -/
theorem kept_B (hc : ¬cond0_0 i) (h : Inputs γ L α X ww wr n x0 x1 x2 x3) :
    Kept X (n + 512) (sout0_B_1 c i arg2 harg2 arg3 harg3 arg4 harg4 arg5 harg5 arg6 harg6 arg7 harg7 arg8 harg8 arg9 harg9 hc x0 x1 x2 x3 xs0 xs1 xs2) := by
  unfold sout0_B_1
  rw [View.read_writes_eq_canon _ _ _ (scover0_B_1 c i arg2 harg2 arg3 harg3 arg4 harg4 arg5 harg5 arg6 harg6 arg7 harg7 arg8 harg8 arg9 harg9 hc x0 x1 x2 x3 xs0 xs1 xs2)]
  unfold kernelRun0_B
  dsimp only
  sl_unfold_words
  simp only [View.readAt_eq_ld, View.readCov_eq_canon', harg2.read_unread, harg3.read_unread, harg4.read_unread, harg5.read_unread, harg7.read_unread, harg8.read_unread, harg9.read_unread]
  refine kept_of _ _ _ _ _ (fun d => ?_) (fun d => ?_)
  · exact last_at _ (X 0) n (load_rows0 h _) d
  · exact last_at _ (X 1) n (load_rows1 h _) d

/-- The output block a later point of a batch pair leaves. -/
theorem layered_B (hc : ¬cond0_0 i) (hγ : Powers γ L) (h : Inputs γ L α X ww wr n x0 x1 x2 x3) (hS : Memory γ X ww n xs0) (hp : Kept X n xs1) (hM : Table γ xs2) :
    Layered γ α X ww wr n (out0_B_4 c i arg2 harg2 arg3 harg3 arg4 harg4 arg5 harg5 arg6 harg6 arg7 harg7 arg8 harg8 arg9 harg9 hc x0 x1 x2 x3 xs0 xs1 xs2) := by
  unfold out0_B_4
  rw [View.read_writes_eq_canon _ _ _ (cover0_B_4 c i arg2 harg2 arg3 harg3 arg4 harg4 arg5 harg5 arg6 harg6 arg7 harg7 arg8 harg8 arg9 harg9 hc x0 x1 x2 x3 xs0 xs1 xs2)]
  unfold kernelRun0_B
  dsimp only
  sl_unfold_words
  simp only [View.readAt_eq_ld, View.readCov_eq_canon', harg2.read_unread, harg3.read_unread, harg4.read_unread, harg5.read_unread, harg7.read_unread, harg8.read_unread, harg9.read_unread]
  simp only [load_decay h]
  refine layered_of _ _ _ _ _ (fun r f => ?_) (fun r f => ?_)
  · exact output_at _ _ _ _ _ _ γ L α (X 0) ww wr n hγ (load_rows0 h _) (fun d => (congrArg xs1 (place_kept 0 _ rfl _ d)).trans (hp 0 d)) (fun e d => (load_weight x2 _ e d).trans (h.write e d)) (fun f e => (load_weight x3 _ f e).trans (h.read f e)) (fun r k => (congrArg xs2 (place_table _ r k)).trans (hM r k)) (fun d e => (congrArg xs0 (place_memory 0 _ rfl _ d e)).trans (hS 0 d e)) r f
  · exact output_at _ _ _ _ _ _ γ L α (X 1) ww wr n hγ (load_rows1 h _) (fun d => (congrArg xs1 (place_kept 1 _ rfl _ d)).trans (hp 1 d)) (fun e d => (load_weight x2 _ e d).trans (h.write e d)) (fun f e => (load_weight x3 _ f e).trans (h.read f e)) (fun r k => (congrArg xs2 (place_table _ r k)).trans (hM r k)) (fun d e => (congrArg xs0 (place_memory 1 _ rfl _ d e)).trans (hS 1 d e)) r f

/-- The memory a first point of a batch pair leaves. -/
theorem memory_A (hc : cond0_0 i) (hγ : Powers γ L) (h : Inputs γ L α X ww wr 0 x0 x1 x2 x3) :
    Memory γ X ww (0 + 512) (sout0_A_0 c i arg2 harg2 arg3 harg3 arg4 harg4 arg5 harg5 arg6 harg6 arg7 harg7 arg8 harg8 arg9 harg9 hc x0 x1 x2 x3) := by
  unfold sout0_A_0
  rw [View.read_writes_eq_canon _ _ _ (scover0_A_0 c i arg2 harg2 arg3 harg3 arg4 harg4 arg5 harg5 arg6 harg6 arg7 harg7 arg8 harg8 arg9 harg9 hc x0 x1 x2 x3)]
  unfold kernelRun0_A
  dsimp only
  sl_unfold_words
  simp only [View.readAt_eq_ld, View.readCov_eq_canon', harg2.read_unread, harg3.read_unread, harg4.read_unread, harg5.read_unread, harg7.read_unread, harg8.read_unread, harg9.read_unread]
  simp only [load_decay h, load_carry h]
  refine memory_of _ _ _ _ _ (fun d e => ?_) (fun d e => ?_)
  · exact memory_at _ _ _ _ γ L (X 0) ww 0 hγ (load_rows0 h _) (fun d => (congrArg (View.canon _) (place_kept 0 _ rfl _ d)).trans (first_kept _ _ (kept_empty X) d)) (fun e d => (load_weight x2 _ e d).trans (h.write e d)) (fun d e => (congrArg (View.canon _) (place_memory 0 _ rfl _ d e)).trans (first_memory _ _ (memory_empty γ X ww) d e)) d e
  · exact memory_at _ _ _ _ γ L (X 1) ww 0 hγ (load_rows1 h _) (fun d => (congrArg (View.canon _) (place_kept 1 _ rfl _ d)).trans (second_kept _ _ _ (kept_empty X) _ d)) (fun e d => (load_weight x2 _ e d).trans (h.write e d)) (fun d e => (congrArg (View.canon _) (place_memory 1 _ rfl _ d e)).trans (second_memory _ _ _ (memory_empty γ X ww) _ d e)) d e

/-- The rows a first point of a batch pair keeps. -/
theorem kept_A (hc : cond0_0 i) (h : Inputs γ L α X ww wr 0 x0 x1 x2 x3) :
    Kept X (0 + 512) (sout0_A_1 c i arg2 harg2 arg3 harg3 arg4 harg4 arg5 harg5 arg6 harg6 arg7 harg7 arg8 harg8 arg9 harg9 hc x0 x1 x2 x3) := by
  unfold sout0_A_1
  rw [View.read_writes_eq_canon _ _ _ (scover0_A_1 c i arg2 harg2 arg3 harg3 arg4 harg4 arg5 harg5 arg6 harg6 arg7 harg7 arg8 harg8 arg9 harg9 hc x0 x1 x2 x3)]
  unfold kernelRun0_A
  dsimp only
  sl_unfold_words
  simp only [View.readAt_eq_ld, View.readCov_eq_canon', harg2.read_unread, harg3.read_unread, harg4.read_unread, harg5.read_unread, harg7.read_unread, harg8.read_unread, harg9.read_unread]
  refine kept_of _ _ _ _ _ (fun d => ?_) (fun d => ?_)
  · exact last_at _ (X 0) 0 (load_rows0 h _) d
  · exact last_at _ (X 1) 0 (load_rows1 h _) d

/-- The table a first point of a batch pair leaves. -/
theorem table_A (hc : cond0_0 i) (hγ : Powers γ L) (h : Inputs γ L α X ww wr 0 x0 x1 x2 x3) : Table γ (sout0_A_2 c i arg2 harg2 arg3 harg3 arg4 harg4 arg5 harg5 arg6 harg6 arg7 harg7 arg8 harg8 arg9 harg9 hc x0 x1 x2 x3) := by
  unfold sout0_A_2
  rw [View.read_writes_eq_canon _ _ _ (scover0_A_2 c i arg2 harg2 arg3 harg3 arg4 harg4 arg5 harg5 arg6 harg6 arg7 harg7 arg8 harg8 arg9 harg9 hc x0 x1 x2 x3)]
  unfold kernelRun0_A
  dsimp only
  sl_unfold_words
  simp only [View.readAt_eq_ld, View.readCov_eq_canon', harg2.read_unread, harg3.read_unread, harg4.read_unread, harg5.read_unread, harg7.read_unread, harg8.read_unread, harg9.read_unread]
  simp only [load_decay h]
  exact filled_table _ _ (table_first hγ)

/-- The output block a first point of a batch pair leaves. -/
theorem layered_A (hc : cond0_0 i) (hγ : Powers γ L) (h : Inputs γ L α X ww wr 0 x0 x1 x2 x3) :
    Layered γ α X ww wr 0 (out0_A_4 c i arg2 harg2 arg3 harg3 arg4 harg4 arg5 harg5 arg6 harg6 arg7 harg7 arg8 harg8 arg9 harg9 hc x0 x1 x2 x3) := by
  unfold out0_A_4
  rw [View.read_writes_eq_canon _ _ _ (cover0_A_4 c i arg2 harg2 arg3 harg3 arg4 harg4 arg5 harg5 arg6 harg6 arg7 harg7 arg8 harg8 arg9 harg9 hc x0 x1 x2 x3)]
  unfold kernelRun0_A
  dsimp only
  sl_unfold_words
  simp only [View.readAt_eq_ld, View.readCov_eq_canon', harg2.read_unread, harg3.read_unread, harg4.read_unread, harg5.read_unread, harg7.read_unread, harg8.read_unread, harg9.read_unread]
  simp only [load_decay h]
  refine layered_of _ _ _ _ _ (fun r f => ?_) (fun r f => ?_)
  · exact output_at _ _ _ _ _ _ γ L α (X 0) ww wr 0 hγ (load_rows0 h _) (fun d => (congrArg (View.canon _) (place_kept 0 _ rfl _ d)).trans (first_kept _ _ (kept_empty X) d)) (fun e d => (load_weight x2 _ e d).trans (h.write e d)) (fun f e => (load_weight x3 _ f e).trans (h.read f e)) (fun r k => (congrArg (View.canon _) (place_table _ r k)).trans (filled_table _ _ (table_first hγ) r k)) (fun d e => (congrArg (View.canon _) (place_memory 0 _ rfl _ d e)).trans (first_memory _ _ (memory_empty γ X ww) d e)) r f
  · exact output_at _ _ _ _ _ _ γ L α (X 1) ww wr 0 hγ (load_rows1 h _) (fun d => (congrArg (View.canon _) (place_kept 1 _ rfl _ d)).trans (second_kept _ _ _ (kept_empty X) _ d)) (fun e d => (load_weight x2 _ e d).trans (h.write e d)) (fun f e => (load_weight x3 _ f e).trans (h.read f e)) (fun r k => (congrArg (View.canon _) (place_table _ r k)).trans (filled_table _ _ (table_first hγ) r k)) (fun d e => (congrArg (View.canon _) (place_memory 1 _ rfl _ d e)).trans (second_memory _ _ _ (memory_empty γ X ww) _ d e)) r f

end Cert.HebbPieces

end
-- ==== Proof.HebbArgs.lean ====
/- The arguments as numbers: what the precondition gives of the five argument arrays, and the layer's result as a function of
   those numbers. -/
module

public import proofs.«01_k».proof.Defs
public import proofs.«01_k».proof.Proof.HebbMath
public import Idealize.ShloMosaic.Lib.ValueIdx
public import Idealize.ShloMosaic.Lib.Pipeline.Value

@[expose] public section

noncomputable section

open Idealize.ShloMosaic Idealize.ShloMosaic.ValueIdx Cert.HebbMath

namespace Cert.HebbArgs

/-- The shape of the batch of rows. -/
abbrev SX : Shape := ⟨3, ![4, 4096, 1024]⟩
/-- The shape of a weight. -/
abbrev SW : Shape := ⟨2, ![1024, 1024]⟩
/-- The shape of a scalar. -/
abbrev S0 : Shape := ⟨0, ![]⟩

/-- The five argument arrays hold these numbers: the rows and the write weight real ones, the scale's logarithm below +∞. -/
structure Holds (x : Fin 4 → ℕ → Fin 1024 → ℝ) (ww : Fin 1024 → Fin 1024 → ℝ) (wr : Fin 1024 → Fin 1024 → EReal) (δ a : EReal)
    (A0 : FVec Ideal SX .f32) (A1 A2 : FVec Ideal SW .f32) (A3 A4 : FVec Ideal S0 .f32) : Prop where
  rows : ∀ (b : Fin 4) (t : Fin 4096) (d : Fin 1024), A0 (ix3 b t d) = ((x b (t : ℕ) d : ℝ) : EReal)
  write : ∀ e d : Fin 1024, A1 (ix2 e d) = ((ww e d : ℝ) : EReal)
  read : ∀ f e : Fin 1024, A2 (ix2 f e) = wr f e
  decay : ∀ i : S0.Idx, A3 i = δ
  scale : ∀ i : S0.Idx, A4 i = a
  below : a < ⊤

/-- The decay per time step: the logistic function of the argument, 0 at −∞ and 1 at +∞. -/
def gam : EReal → ℝ
  | ⊥ => 0
  | ⊤ => 1
  | (r : ℝ) => 1 / (1 + Real.exp (-r))

/-- The decay is not negative. -/
theorem gam_nonneg (δ : EReal) : 0 ≤ gam δ := by
  induction δ using EReal.rec with
  | bot => exact le_refl _
  | coe r => exact (by positivity : (0 : ℝ) ≤ 1 / (1 + Real.exp (-r)))
  | top => exact zero_le_one

/-- The result array. -/
def result (x : Fin 4 → ℕ → Fin 1024 → ℝ) (ww : Fin 1024 → Fin 1024 → ℝ) (wr : Fin 1024 → Fin 1024 → EReal) (δ a : EReal) : FVec Ideal SX .f32 :=
  fun i => layer (gam δ) (x (i 0)) ww wr (Ideal.exp a) (i 1 : Fin 4096) (i 2)

/-- The word of infinity is the top element. -/
theorem word_inf : Ideal.ofBits .f32 0x7F800000#32 = (⊤ : EReal) := by
  simp [Ideal.ofBits, Ideal.ieee]

/-- A number whose absolute value compares below infinity is a real number. -/
theorem real_of_olt {y : Ideal .f32}
    (h : FloatOps.cmpf (F := Ideal) (φ := .f32) .olt (FloatOps.hostAbsf (F := Ideal) y) (FloatOps.ofBits (F := Ideal) .f32 0x7F800000#32) = 1#1) :
    y = ((EReal.toReal y : ℝ) : EReal) := by
  have h' : BitVec.ofBool (decide (max y (-y) < Ideal.ofBits .f32 0x7F800000#32)) = 1#1 := h
  rw [word_inf] at h'
  have hlt : max y (-y) < (⊤ : EReal) := by
    by_contra hn
    rw [decide_eq_false hn] at h'
    exact absurd h' (by decide)
  have h1 : y ≠ (⊤ : EReal) := ((le_max_left _ _).trans_lt hlt).ne
  have h2 : y ≠ (⊥ : EReal) := fun e => by
    rw [e] at hlt
    simp at hlt
  exact (EReal.coe_toReal h1 h2).symm

/-- A number that compares below infinity is below it. -/
theorem below_of_olt {y : Ideal .f32}
    (h : FloatOps.cmpf (F := Ideal) (φ := .f32) .olt y (FloatOps.ofBits (F := Ideal) .f32 0x7F800000#32) = 1#1) : y < (⊤ : EReal) := by
  have h' : BitVec.ofBool (decide (y < Ideal.ofBits .f32 0x7F800000#32)) = 1#1 := h
  rw [word_inf] at h'
  by_contra hn
  rw [decide_eq_false hn] at h'
  exact absurd h' (by decide)

/-- The facts of the precondition's shapes. -/
theorem pre_facts : Cert.Pre_bounded.Facts where
  bcast_S_S4x4096x1024 := by decide
  bcast_S_S1024x1024 := by decide

/-- The row `b` of the batch as a sequence of real vectors, zero past its end. -/
def rowsOf (A : FVec Ideal SX .f32) (b : Fin 4) (t : ℕ) (d : Fin 1024) : ℝ :=
  if h : t < 4096 then EReal.toReal (A (ix3 b (⟨t, h⟩ : Fin 4096) d)) else 0

/-- A weight as a real matrix. -/
def weightOf (A : FVec Ideal SW .f32) (e d : Fin 1024) : ℝ := EReal.toReal (A (ix2 e d))

/-- Arguments under the precondition hold such numbers. -/
theorem holds_of_bounded [Cert.Pre_bounded.Facts] (A0 : FVec Ideal SX .f32) (A1 A2 : FVec Ideal SW .f32) (A3 A4 : FVec Ideal S0 .f32)
    (h0 : (Cert.Pre_bounded.fn (F := Ideal) A0 A1 A2 A3 A4).1 = fun _ => 1#1)
    (h1 : (Cert.Pre_bounded.fn (F := Ideal) A0 A1 A2 A3 A4).2.1 = fun _ => 1#1)
    (h2 : (Cert.Pre_bounded.fn (F := Ideal) A0 A1 A2 A3 A4).2.2 = fun _ => 1#1) :
    Holds (rowsOf A0) (weightOf A1) (fun f e => A2 (ix2 f e)) (A3 ix0) (A4 ix0) A0 A1 A2 A3 A4 where
  rows b t d := by
    refine (real_of_olt (congrFun h0 (ix3 b t d))).trans ?_
    rw [rowsOf, dif_pos t.isLt]
  write e d := real_of_olt (congrFun h1 (ix2 e d))
  read _ _ := rfl
  decay i := congrArg A3 (eq_ix0 i)
  scale i := congrArg A4 (eq_ix0 i)
  below := below_of_olt (congrFun h2 ix0)

end Cert.HebbArgs
-- ==== Proof.HebbKernel.lean ====
/- The run of the kernel: its array of results as a function of the arguments. -/
module

public import proofs.«01_k».proof.Proof.HebbPieces
public import proofs.«01_k».proof.Proof.HebbArgs
public import Idealize.ShloMosaic.Lib.StableHlo.RunRead
public import Idealize.ShloMosaic.Lib.Pipeline.ValueKit.Geometry

@[expose] public section

set_option maxRecDepth 16384

noncomputable section

open Idealize.ShloMosaic Idealize.ShloMosaic.ValueIdx Idealize.SL.Sem Cert.KernelIdeal Cert.KernelIdeal.Gen
open Cert.HebbMath Cert.HebbTile Cert.HebbPieces Cert.HebbArgs

namespace Cert.HebbKernel

variable (m : (ℓ : Loc nD τ sig) → Buf (Elt Ideal) ℓ) (c : Dev nD)
  {x : Fin 4 → ℕ → Fin 1024 → ℝ} {ww : Fin 1024 → Fin 1024 → ℝ} {wr : Fin 1024 → Fin 1024 → EReal} {δ a : EReal}

/-- The arguments a device's memory holds are these numbers. -/
abbrev Args (x : Fin 4 → ℕ → Fin 1024 → ℝ) (ww : Fin 1024 → Fin 1024 → ℝ) (wr : Fin 1024 → Fin 1024 → EReal) (δ a : EReal) : Prop :=
  Holds x ww wr δ a (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- The batch row that row `g` of pair `p` is. -/
def row (p g : Fin 2) : Fin 4 := ⟨2 * (p : ℕ) + g, by omega⟩

/-! ## What the arrays hold when the grid starts -/

/-- The word of `512.0` is 512. -/
theorem word_carry : Ideal.ofBits .f32 0x44000000#32 = ((512 : ℝ) : EReal) := by
  simp [Ideal.ofBits, Ideal.ieee, -EReal.coe_mul]; norm_num

/-- The logistic function as the host computes it. -/
theorem logistic_at (δ : EReal) :
    Ideal.div (Ideal.ofBits .f32 0x3F800000#32) (Ideal.ofBits .f32 0x3F800000#32 + Ideal.exp (-δ))
      = ((gam δ : ℝ) : EReal) := by
  rw [word_one]
  induction δ using EReal.rec with
  | bot =>
    have e : ((1 : ℝ) : EReal) + Ideal.exp (-⊥) = ⊤ := rfl
    rw [e, Ideal.div, if_neg (by simp), EReal.inv_top, mul_zero]
    rfl
  | coe r =>
    rw [← EReal.coe_neg, Ideal.exp_coe, ← EReal.coe_add, Ideal.div_coe (by positivity), ← EReal.coe_mul, one_mul]
    rfl
  | top =>
    have e : ((1 : ℝ) : EReal) + Ideal.exp (-⊤) = ((1 : ℝ) : EReal) := add_zero _
    rw [e, Ideal.div_coe one_ne_zero, ← EReal.coe_mul]
    exact congrArg _ (by rw [one_div_one, one_mul]; rfl)

/-- The logarithm of the decay, −∞ where the decay is zero. -/
def logDecay (δ : EReal) : EReal := Ideal.log ((gam δ : ℝ) : EReal)

/-- The exponentials of its multiples are the powers of the decay. -/
theorem powers (δ : EReal) : Powers (gam δ) (logDecay δ) := by
  intro k
  unfold logDecay
  rcases (gam_nonneg δ).eq_or_lt with h | h
  · rw [← h]
    have e : Ideal.log ((0 : ℝ) : EReal) = ⊥ := if_pos (le_refl _)
    rw [e]
    rcases k.eq_zero_or_pos with rfl | hk
    · rw [Nat.cast_zero, EReal.coe_zero, zero_mul, ← EReal.coe_zero, Ideal.exp_coe, Real.exp_zero, pow_zero]
    · rw [EReal.coe_mul_bot_of_pos (Nat.cast_pos.mpr hk), zero_pow hk.ne']
      rfl
  · have e : Ideal.log ((gam δ : ℝ) : EReal) = ((Real.log (gam δ) : ℝ) : EReal) := if_neg (not_le.mpr h)
    rw [e, ← EReal.coe_mul, Ideal.exp_coe, exp_mul_log h]

/-- The logarithm of the decay as the host computes it. -/
theorem log_at {A : EReal} (h : A = δ) :
    Ideal.log (Ideal.div (Ideal.ofBits .f32 0x3F800000#32) (Ideal.ofBits .f32 0x3F800000#32 + Ideal.exp (-A)))
      = logDecay δ := by
  rw [h, logistic_at, logDecay]

/-- The first scalar is the logarithm of the decay. -/
theorem entry_decay (h : Args m c x ww wr δ a) : V m c main_v9 (ix1 (0 : Fin 2)) = logDecay δ := by
  dsimp only [V, V0]
  after_reads_simp
  refine (concatenate_pair_apply_left (t := S2) (s₁ := S1) (s₂ := S1) 0 _ _ _ (ix1 (0 : Fin 2)) rfl (ix1 (0 : Fin 1)) ?_).trans ?_
  · intro b
    match b with
    | ⟨0, _⟩ => rfl
  · exact log_at (h.decay _)

/-- The second scalar is the decay across a whole tile. -/
theorem entry_carry (h : Args m c x ww wr δ a) : V m c main_v9 (ix1 (1 : Fin 2)) = ((gam δ ^ 512 : ℝ) : EReal) := by
  dsimp only [V, V0]
  after_reads_simp
  refine (concatenate_pair_apply_right (t := S2) (s₁ := S1) (s₂ := S1) 0 _ _ _ (ix1 (1 : Fin 2)) rfl rfl (ix1 (0 : Fin 1)) ?_ ?_).trans ?_
  · intro b hb
    match b with
    | ⟨0, _⟩ => exact absurd rfl hb
  · rfl
  · refine (congrArg Ideal.exp (congrArg (Ideal.ofBits .f32 0x44000000#32 * ·) (log_at (h.decay _)))).trans ?_
    rw [word_carry]
    exact (congrArg (fun q : ℝ => Ideal.exp ((q : EReal) * logDecay δ)) (Nat.cast_ofNat (R := ℝ) (n := 512)).symm).trans (powers δ 512)

/-- The rows as pairs. -/
theorem entry_rows (h : Args m c x ww wr δ a) (p g : Fin 2) (t : Fin 4096) (d : Fin 1024) :
    V m c main_v10 (ix4 p g t d) = ((x (row p g) t d : ℝ) : EReal) := by
  dsimp only [V, V0]
  after_reads_simp
  refine (shapeCast_apply _ _ _ (ix3 (row p g) t d) ?_).trans (h.rows (row p g) t d)
  show (S4x4096x1024.rowMajor (ix3 (row p g) t d)).val = (S2x2x4096x1024.rowMajor (ix4 p g t d)).val
  rw [Shape.rowMajor_val_three, Shape.rowMajor_val_four]
  show ((2 * (p : ℕ) + g) * 4096 + (t : ℕ)) * 1024 + (d : ℕ) = (((p : ℕ) * 2 + g) * 4096 + t) * 1024 + d
  ring

/-- The write weight. -/
theorem entry_write (h : Args m c x ww wr δ a) (e d : Fin 1024) :
    V m c main_v11 (ix2 e d) = ((ww e d : ℝ) : EReal) := by
  dsimp only [V, V0]
  after_reads_simp
  exact h.write e d

/-- The read weight, scaled. -/
theorem entry_read (h : Args m c x ww wr δ a) (f e : Fin 1024) :
    V m c main_v15 (ix2 f e) = wr f e * Ideal.exp a := by
  dsimp only [V, V0]
  after_reads_simp
  exact congrArg₂ (fun u v : EReal => u * Ideal.exp v) (h.read f e) (h.scale _)

/-! ## The blocks a grid point reads -/

/-- The scalars' block is the whole array. -/
theorem index_0 : ∀ t : Fin grid0.N, win0_0.index t 0 = 0 := by decide +kernel

/-- The rows' block: the pair and the tile of the point. -/
theorem index_1 : ∀ t : Fin grid0.N, win0_1.index t 0 = (t : ℕ) / 8 ∧ win0_1.index t 1 = 0 ∧ win0_1.index t 2 = (t : ℕ) % 8
    ∧ win0_1.index t 3 = 0 := by decide +kernel

/-- The write weight's block is the whole array. -/
theorem index_2 : ∀ t : Fin grid0.N, win0_2.index t 0 = 0 ∧ win0_2.index t 1 = 0 := by decide +kernel

/-- The read weight's block is the whole array. -/
theorem index_3 : ∀ t : Fin grid0.N, win0_3.index t 0 = 0 ∧ win0_3.index t 1 = 0 := by decide +kernel

/-- The results' block: the pair and the tile of the point. -/
theorem index_4 : ∀ t : Fin grid0.N, win0_4.index t 0 = (t : ℕ) / 8 ∧ win0_4.index t 1 = 0 ∧ win0_4.index t 2 = (t : ℕ) % 8
    ∧ win0_4.index t 3 = 0 := by decide +kernel

/-- The scalars' block. -/
theorem block_scalar (t : Fin cfg0.N) (k : Fin 2) : iblk m c 0 t (ix1 k) = V m c main_v9 (ix1 k) := by
  have e := index_0 t
  blk_ext [iblk, e]

/-- The rows' block. -/
theorem block_rows (t : Fin cfg0.N) (p g : Fin 2) (r : Fin 512) (d : Fin 1024) (hp : (t : ℕ) / 8 = p) (ht : 512 * ((t : ℕ) % 8) + (r : ℕ) < 4096) :
    iblk m c 1 t (ix4 (0 : Fin 1) g r d) = V m c main_v10 (ix4 p g (⟨512 * ((t : ℕ) % 8) + r, ht⟩ : Fin 4096) d) := by
  obtain ⟨e0, e1, e2, e3⟩ := index_1 t
  blk_ext [iblk, e0, e1, e2, e3]
  show (t : ℕ) % 8 * 512 + (r : ℕ) = 512 * ((t : ℕ) % 8) + r
  omega

/-- The write weight's block. -/
theorem block_write (t : Fin cfg0.N) (e d : Fin 1024) : iblk m c 2 t (ix2 e d) = V m c main_v11 (ix2 e d) := by
  obtain ⟨e0, e1⟩ := index_2 t
  blk_ext [iblk, e0, e1]

/-- The read weight's block. -/
theorem block_read (t : Fin cfg0.N) (f e : Fin 1024) : iblk m c 3 t (ix2 f e) = V m c main_v15 (ix2 f e) := by
  obtain ⟨e0, e1⟩ := index_3 t
  blk_ext [iblk, e0, e1]

/-- What a grid point reads. -/
theorem inputs (h : Args m c x ww wr δ a) (t : Fin cfg0.N) (p : Fin 2) (n : ℕ) (hp : (t : ℕ) / 8 = p) (hn : n = 512 * ((t : ℕ) % 8)) :
    Inputs (gam δ) (logDecay δ) (Ideal.exp a) (fun g => x (row p g)) ww wr n (iblk m c 0 t) (iblk m c 1 t) (iblk m c 2 t) (iblk m c 3 t) where
  decay := (block_scalar m c t 0).trans (entry_decay m c h)
  carry := (block_scalar m c t 1).trans (entry_carry m c h)
  rows g r d := by
    subst hn
    exact (block_rows m c t p g r d hp (by omega)).trans (entry_rows m c h p g _ d)
  write e d := (block_write m c t e d).trans (entry_write m c h e d)
  read f e := (block_read m c t f e).trans (entry_read m c h f e)

/-! ## What every grid point leaves -/

/-- After a point: its tile's results, the memory and the kept rows at the next tile's first time, the table of weights. -/
structure After (γ : ℝ) (α : EReal) (X : Fin 2 → ℕ → Fin 1024 → ℝ) (ww : Fin 1024 → Fin 1024 → ℝ)
    (wr : Fin 1024 → Fin 1024 → EReal) (n : ℕ)
    (o : Vec Ideal S1x2x512x1024 .f32 × Vec Ideal S2x1024x1024 .bf16 × Vec Ideal S2x1024 .f32 × Vec Ideal S512x512 .f32) : Prop where
  tile : Layered γ α X ww wr n o.1
  memory : Memory γ X ww (n + 512) o.2.1
  kept : Kept X (n + 512) o.2.2.1
  table : Table γ o.2.2.2

/-- A pair's first point starts from nothing. -/
theorem point_first (h : Args m c x ww wr δ a) (t : Fin cfg0.N) (p : Fin 2) (hp : (t : ℕ) / 8 = p) (h0 : (t : ℕ) % 8 = 0) :
    After (gam δ) (Ideal.exp a) (fun g => x (row p g)) ww wr 0 (outsAt0 m c t.val t.isLt) := by
  have hin := inputs m c h t p 0 hp (by omega)
  have hc := (hcond0_0 t).mpr h0
  rw [outsAt0_A m c t h0]
  refine ⟨?_, ?_, ?_, ?_⟩
  · dsimp only
    exact layered_A _ _ _ _ _ _ _ _ _ _ _ _ _ _ _ _ _ _ _ _ _ _ _ _ _ _ _ _ hc (powers δ) hin
  · dsimp only
    exact memory_A _ _ _ _ _ _ _ _ _ _ _ _ _ _ _ _ _ _ _ _ _ _ _ _ _ _ _ _ hc (powers δ) hin
  · dsimp only
    exact kept_A _ _ _ _ _ _ _ _ _ _ _ _ _ _ _ _ _ _ _ _ _ _ _ _ _ _ _ _ hc hin
  · dsimp only
    exact table_A _ _ _ _ _ _ _ _ _ _ _ _ _ _ _ _ _ _ _ _ _ _ _ _ _ _ _ _ hc (powers δ) hin

/-- A later point takes over what the point before it left. -/
theorem point_next (h : Args m c x ww wr δ a) (t : Fin cfg0.N) (p : Fin 2) (n : ℕ) (hp : (t : ℕ) / 8 = p) (hn : n + 512 = 512 * ((t : ℕ) % 8))
    (hprev : After (gam δ) (Ideal.exp a) (fun g => x (row p g)) ww wr n
      (outsAt0 m c (t.val - 1) (Nat.lt_of_le_of_lt (Nat.sub_le _ _) t.isLt))) :
    After (gam δ) (Ideal.exp a) (fun g => x (row p g)) ww wr (n + 512) (outsAt0 m c t.val t.isLt) := by
  have h0 : ¬(t : ℕ) % 8 = 0 := by omega
  have hin := inputs m c h t p (n + 512) hp hn
  have hc : ¬cond0_0 (grid0.coords t) := fun h => h0 ((hcond0_0 t).mp h)
  rw [outsAt0_B m c t h0]
  refine ⟨?_, ?_, ?_, ?_⟩
  · dsimp only
    exact layered_B _ _ _ _ _ _ _ _ _ _ _ _ _ _ _ _ _ _ _ _ _ _ _ _ _ _ _ _ _ _ _ _ hc (powers δ) hin hprev.memory hprev.kept hprev.table
  · dsimp only
    exact memory_B _ _ _ _ _ _ _ _ _ _ _ _ _ _ _ _ _ _ _ _ _ _ _ _ _ _ _ _ _ _ _ _ hc (powers δ) hin hprev.memory hprev.kept
  · dsimp only
    exact kept_B _ _ _ _ _ _ _ _ _ _ _ _ _ _ _ _ _ _ _ _ _ _ _ _ _ _ _ _ _ _ _ _ hc hin
  · exact hprev.table

/-- Every point, by the points before it. -/
theorem point (h : Args m c x ww wr δ a) (k : ℕ) : ∀ (hk : k < cfg0.N) (p : Fin 2) (_ : k / 8 = p),
    After (gam δ) (Ideal.exp a) (fun g => x (row p g)) ww wr (512 * (k % 8)) (outsAt0 m c k hk) := by
  induction k with
  | zero => exact fun hk p hp => point_first m c h ⟨0, hk⟩ p hp rfl
  | succ k ih =>
    intro hk p hp
    by_cases h0 : (k + 1) % 8 = 0
    · rw [h0]
      exact point_first m c h ⟨k + 1, hk⟩ p hp h0
    · have e : 512 * ((k + 1) % 8) = 512 * (k % 8) + 512 := by omega
      rw [e]
      exact point_next m c h ⟨k + 1, hk⟩ p (512 * (k % 8)) hp e.symm (ih (Nat.lt_of_succ_lt hk) p (by omega))

/-! ## The array of results -/

/-- The array the grid fills: the layer's results, the batch split into pairs. -/
def filled (x : Fin 4 → ℕ → Fin 1024 → ℝ) (ww : Fin 1024 → Fin 1024 → ℝ) (wr : Fin 1024 → Fin 1024 → EReal) (δ a : EReal) : Vec Ideal S2x2x4096x1024 .f32 :=
  fun i => layer (gam δ) (x (row (i 0) (i 1))) ww wr (Ideal.exp a) (i 2 : Fin 4096) (i 3)

/-- Where a point's block lies in the array of results. -/
theorem block_results (t : Fin cfg0.N) (p g : Fin 2) (r : Fin 512) (f : Fin 1024) (hp : (t : ℕ) / 8 = p) (ht : 512 * ((t : ℕ) % 8) + (r : ℕ) < 4096) :
    (win0_4.blk t).view.emb (ix4 (0 : Fin 1) g r f) = ix4 p g (⟨512 * ((t : ℕ) % 8) + r, ht⟩ : Fin 4096) f := by
  obtain ⟨e0, e1, e2, e3⟩ := index_4 t
  blk_ext [e0, e1, e2, e3]
  show (t : ℕ) % 8 * 512 + (r : ℕ) = 512 * ((t : ℕ) % 8) + r
  omega

/-- The grid fills it. -/
theorem grid_fills (h : Args m c x ww wr δ a) : (dats m 0 c).arrAt 4 cfg0.N = filled x ww wr δ a := by
  refine (dats m 0 c).arrAt_eq_of_covers 4 _ (by decide +kernel) fun t hf y => ?_
  blk_simp
  rw [after0_4]
  have hN : (t : ℕ) < 16 := N_0 ▸ t.isLt
  obtain ⟨z, g, r, f, rfl⟩ : ∃ (z : Fin 1) (g : Fin 2) (r : Fin 512) (f : Fin 1024), y = ix4 z g r f := ⟨_, _, _, _, eq_ix4 y⟩
  obtain rfl : z = 0 := Subsingleton.elim _ _
  have hp : (t : ℕ) / 8 = ((⟨(t : ℕ) / 8, by omega⟩ : Fin 2) : ℕ) := rfl
  refine ((point m c h t t.isLt _ hp).tile g r f).trans ?_
  exact (congrArg (filled x ww wr δ a) (block_results t _ g r f hp (by omega))).symm

/-- The result array is the filled one with the pairs joined again. -/
theorem joined (i : S4x4096x1024.Idx) :
    shapeCast S4x4096x1024 (filled x ww wr δ a) shapeCasts_S2x2x4096x1024_S4x4096x1024 i = result x ww wr δ a i := by
  obtain ⟨b, t, f, rfl⟩ : ∃ (b : Fin 4) (t : Fin 4096) (f : Fin 1024), i = ix3 b t f := ⟨_, _, _, eq_ix3 i⟩
  have hb : row ⟨(b : ℕ) / 2, by omega⟩ ⟨(b : ℕ) % 2, by omega⟩ = b := Fin.ext (by show 2 * ((b : ℕ) / 2) + (b : ℕ) % 2 = b; omega)
  refine (shapeCast_apply _ _ _ (ix4 (⟨(b : ℕ) / 2, by omega⟩ : Fin 2) (⟨(b : ℕ) % 2, by omega⟩ : Fin 2) t f) ?_).trans ?_
  · rw [Shape.rowMajor_val_three, Shape.rowMajor_val_four]
    show (((b : ℕ) / 2 * 2 + (b : ℕ) % 2) * 4096 + (t : ℕ)) * 1024 + (f : ℕ) = ((b : ℕ) * 4096 + t) * 1024 + f
    rw [Nat.div_add_mod' (b : ℕ) 2]
  · show layer (gam δ) (x (row ⟨(b : ℕ) / 2, _⟩ ⟨(b : ℕ) % 2, _⟩)) ww wr (Ideal.exp a) t f = _
    rw [hb]
    rfl

/-- What the last line leaves in the result. -/
theorem tail (h : Args m c x ww wr δ a) :
    Pipeline.afterTail₀ cfgs (dats m) 0 (V0 m) [hostOps1] c main_v17 = result x ww wr δ a := by
  unfold Pipeline.afterTail₀
  show StableHlo.after (List.flatten [hostOps1 (F := Ideal)]) _ (Proc.devRef .tc main_v17) = _
  after_reads_simp
  have e : Pipeline.withArrays (cfgs 0).spec c (V0 m c) (fun w => (dats m 0 c).arrAt w (cfgs 0).N) (Proc.devRef .tc main_v16)
      = filled x ww wr δ a :=
    (Pipeline.withArrays_arr (cfgs 0).spec launch0.win.arr_inj c (V0 m c) (fun w => (dats m 0 c).arrAt w (cfgs 0).N) 4).trans (grid_fills m c h)
  funext i
  refine Eq.trans ?_ (joined i)
  refine Eq.trans ?_ (congrArg (fun A => shapeCast S4x4096x1024 A shapeCasts_S2x2x4096x1024_S4x4096x1024 i) e)
  rfl

/-- The run: from arguments that hold such numbers the result array is the layer's, and the arguments end unchanged. -/
theorem run (ρ : Dev nD → PrngReg) (R : Dev nD → FVec Ideal SX .f32)
    (h : ∀ c, ∃ (x : Fin 4 → ℕ → Fin 1024 → ℝ) (ww : Fin 1024 → Fin 1024 → ℝ) (wr : Fin 1024 → Fin 1024 → EReal) (δ a : EReal), Args m c x ww wr δ a ∧ R c = result x ww wr δ a) :
    θ_run defs (onTc (τ := τ) (main (F := Ideal))) ⟨m, fun _ => 0, ρ⟩ (fun r => ∀ c : Dev nD,
      r.2.mem ((c.tc : Thread nD τ).loc main_v17) = R c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r hr c => ?_) (θ_run_and (run_main m ρ) (unchanged m ρ))
  obtain ⟨x, ww, wr, δ, a, hA, hR⟩ := h c
  refine ⟨?_, hr.2 c⟩
  exact ((hr.1 c).2 main_v17 (Pipeline.mem_restRefs_of main_v17 (by decide) (by decide))).trans ((tail m c hA).trans hR.symm)

end Cert.HebbKernel
-- ==== Proof.HebbStart.lean ====
/- What the reference computes before its loop, read at an index over the reals: the decay and its powers, the mask of
   weights, the rows, keys and values cut into chunks. -/
module

public import proofs.«01_k».proof.Proof.HebbKernel
public import proofs.«01_k».proof.Proof.Gen.ReferenceIdeal.Step
public import Idealize.ShloMosaic.Lib.KernelVsHost

@[expose] public section

set_option maxRecDepth 16384

noncomputable section

open Idealize.ShloMosaic Idealize.ShloMosaic.ValueIdx Cert.ReferenceIdeal Cert.ReferenceIdeal.Gen Cert.ReferenceIdeal.Step
open Cert.HebbMath Cert.HebbArgs
open Cert.HebbTile (word_one word_zero word_nat)
open Cert.HebbKernel (logistic_at log_at logDecay powers)

namespace Cert.HebbStart

/-! ## Words -/

/-- The word of the age of position `k` seen from position `r`, cut at zero. -/
theorem word_age : ∀ r k : Fin 64,
    IntOp.maxsi 0#32 (IntOp.subi (IntOp.subi (BitVec.ofNat 32 r) 1#32) (BitVec.ofNat 32 k)) = BitVec.ofNat 32 ((r : ℕ) - 1 - k) := by
  decide +kernel

/-- The word of the comparison of two positions. -/
theorem word_later : ∀ r k : Fin 64,
    IntOp.cmpi .sgt (BitVec.ofNat 32 r) (BitVec.ofNat 32 k) = BitVec.ofBool (decide ((k : ℕ) < r)) := by
  decide +kernel

/-- The word of the number of positions left after position `r`. -/
theorem word_left : ∀ r : Fin 64, IntOp.subi 63#32 (BitVec.ofNat 32 r) = BitVec.ofNat 32 (64 - 1 - (r : ℕ)) := by
  decide +kernel

/-- A power of the decay with a natural exponent. -/
theorem pow_nat {A B : EReal} {g : ℝ} {n : ℕ} (hA : A = ((g : ℝ) : EReal)) (hB : B = (((n : ℕ) : ℝ) : EReal)) :
    Ideal.pow A B = ((g ^ n : ℝ) : EReal) := by
  rw [hA, hB]
  show ((Real.rpow g (n : ℝ) : ℝ) : EReal) = _
  exact congrArg _ (Real.rpow_natCast g n)

/-- Squaring doubles the exponent. -/
theorem square {A : EReal} {g : ℝ} {n : ℕ} (hA : A = ((g ^ n : ℝ) : EReal)) : A * A = ((g ^ (n + n) : ℝ) : EReal) := by
  rw [hA, ← EReal.coe_mul, pow_add]

/-! ## Host products -/

/-- A host product with a one-axis contraction of finite factors is the real sum of products. -/
theorem hostProduct_at {sl sr so : Shape} (D : DotDims sl sr so) (n : ℕ) (hr : D.contr.rank = 1)
    (hs : D.contr.size ⟨0, by omega⟩ = n) (lhs : FVec Ideal sl .f32) (rhs : FVec Ideal sr .f32) (j : so.Idx) (f g : Fin n → ℝ)
    (hl : ∀ k, lhs (D.lhsIdx j ((contrEquiv1 D n hr hs).symm k)) = ((f k : ℝ) : EReal))
    (hg : ∀ k, rhs (D.rhsIdx j ((contrEquiv1 D n hr hs).symm k)) = ((g k : ℝ) : EReal)) :
    Host.dotGeneral D none lhs rhs j = ((∑ k, f k * g k : ℝ) : EReal) := by
  refine (Ideal.dotGeneral_apply D none _ lhs rhs j).trans ?_
  rw [← Equiv.sum_comp (contrEquiv1 D n hr hs).symm, ← coe_sum_mul]
  exact Finset.sum_congr rfl fun k _ => by rw [hl k, hg k]

/-- All the rows through a square matrix of any extended reals. -/
theorem readOut_at (lhs : FVec Ideal S4x4096x1024 .f32) (rhs : FVec Ideal S1024x1024 .f32) (b : Fin 4) (t : Fin 4096) (e : Fin 1024)
    (f : Fin 1024 → ℝ) (g : Fin 1024 → EReal) (hl : ∀ d, lhs (ix3 b t d) = ((f d : ℝ) : EReal)) (hg : ∀ d, rhs (ix2 e d) = g d) :
    Host.dotGeneral dot_S4x4096x1024_S1024x1024_S4x4096x1024_2_1_01_0_n_n none lhs rhs (ix3 b t e)
      = ∑ d, ((f d : ℝ) : EReal) * g d := by
  refine (Ideal.dotGeneral_apply _ none _ lhs rhs _).trans ?_
  rw [← Equiv.sum_comp (contrEquiv1 dot_S4x4096x1024_S1024x1024_S4x4096x1024_2_1_01_0_n_n 1024 rfl rfl).symm]
  refine Finset.sum_congr rfl fun k _ => congrArg₂ (· * ·) ?_ ?_
  · refine Eq.trans (congrArg lhs (funext fun a => Fin.ext ?_)) (hl k)
    match a with
    | ⟨0, _⟩ => rfl
    | ⟨1, _⟩ => rfl
    | ⟨2, _⟩ => rfl
  · refine Eq.trans (congrArg rhs (funext fun a => Fin.ext ?_)) (hg k)
    match a with
    | ⟨0, _⟩ => rfl
    | ⟨1, _⟩ => rfl

/-- All the rows through a square weight matrix. -/
theorem project_at (lhs : FVec Ideal S4x4096x1024 .f32) (rhs : FVec Ideal S1024x1024 .f32) (b : Fin 4) (t : Fin 4096) (e : Fin 1024)
    (f g : Fin 1024 → ℝ) (hl : ∀ d, lhs (ix3 b t d) = ((f d : ℝ) : EReal)) (hg : ∀ d, rhs (ix2 e d) = ((g d : ℝ) : EReal)) :
    Host.dotGeneral dot_S4x4096x1024_S1024x1024_S4x4096x1024_2_1_01_0_n_n none lhs rhs (ix3 b t e) = ((∑ d, f d * g d : ℝ) : EReal) := by
  refine hostProduct_at _ 1024 rfl rfl lhs rhs _ f g (fun d => ?_) (fun d => ?_)
  · refine Eq.trans (congrArg lhs (funext fun a => Fin.ext ?_)) (hl d)
    match a with
    | ⟨0, _⟩ => rfl
    | ⟨1, _⟩ => rfl
    | ⟨2, _⟩ => rfl
  · refine Eq.trans (congrArg rhs (funext fun a => Fin.ext ?_)) (hg d)
    match a with
    | ⟨0, _⟩ => rfl
    | ⟨1, _⟩ => rfl

/-- Rows cut into chunks, the chunk's number first. -/
theorem chunks_at (A : FVec Ideal S4x4096x1024 .f32) (f : Fin 4 → ℕ → Fin 1024 → ℝ)
    (hA : ∀ b (t : Fin 4096) d, A (ix3 b t d) = ((f b t d : ℝ) : EReal)) (n : Fin 64) (b : Fin 4) (r : Fin 64) (d : Fin 1024) :
    transpose S64x4x64x1024 [1, 0, 2, 3] (shapeCast S4x64x64x1024 A shapeCasts_S4x4096x1024_S4x64x64x1024)
        transposes_S4x64x64x1024_S64x4x64x1024_1_0_2_3 (ix4 n b r d)
      = ((f b (64 * (n : ℕ) + r) d : ℝ) : EReal) := by
  refine (transpose_apply _ _ _ _ (ix4 b n r d) ?_).trans ?_
  · intro a
    match a with
    | ⟨0, _⟩ => rfl
    | ⟨1, _⟩ => rfl
    | ⟨2, _⟩ => rfl
    | ⟨3, _⟩ => rfl
  · refine (shapeCast_apply _ _ _ (ix3 b (⟨64 * (n : ℕ) + r, by omega⟩ : Fin 4096) d) ?_).trans (hA b _ d)
    rw [Shape.rowMajor_val_three, Shape.rowMajor_val_four]
    show ((b : ℕ) * 4096 + (64 * (n : ℕ) + r)) * 1024 + d = (((b : ℕ) * 64 + n) * 64 + r) * 1024 + d
    ring

variable {x : Fin 4 → ℕ → Fin 1024 → ℝ} {ww : Fin 1024 → Fin 1024 → ℝ} {wr : Fin 1024 → Fin 1024 → EReal} {δ a : EReal}
  {A0 : FVec Ideal SX .f32} {A1 A2 : FVec Ideal SW .f32} {A3 A4 : FVec Ideal S0 .f32} (h : Holds x ww wr δ a A0 A1 A2 A3 A4)
include h

/-! ## The decay and its powers -/

/-- The decay. -/
theorem decay_at (i : S0.Idx) : A_main_v3 (F := Ideal) A0 A1 A3 i = ((gam δ : ℝ) : EReal) := by
  refine Eq.trans ?_ (logistic_at δ)
  rw [← h.decay i]
  rfl

/-- The logarithm of the decay. -/
theorem logDecay_at (i : S0.Idx) : A_main_v4 (F := Ideal) A0 A1 A3 i = logDecay δ :=
  log_at (h.decay i)

/-- The decay of the memory read at position `r`. -/
theorem readPower_at (r : Fin 64) : A_main_v37 (F := Ideal) A0 A1 A3 (ix1 r) = ((gam δ ^ (r : ℕ) : ℝ) : EReal) :=
  pow_nat (decay_at h _) (word_nat (r : ℕ) (by omega))

/-- The decay of the write at position `r` by the end of its chunk. -/
theorem writePower_at (r : Fin 64) : A_main_v43 (F := Ideal) A0 A1 A3 (ix1 r) = ((gam δ ^ (64 - 1 - (r : ℕ)) : ℝ) : EReal) := by
  refine pow_nat (decay_at h _) ?_
  show FloatOps.sitofp (F := Ideal) .f32 (IntOp.subi 63#32 (BitVec.ofNat 32 r)) = _
  rw [word_left, word_nat _ (by omega)]

/-- The decay over a whole chunk. -/
theorem chunkPower_at (i : S0.Idx) : A_main_v49 (F := Ideal) A0 A1 A3 i = ((gam δ ^ 64 : ℝ) : EReal) := by
  have h1 : A_main_v3 (F := Ideal) A0 A1 A3 i = ((gam δ ^ 1 : ℝ) : EReal) := by rw [decay_at h, pow_one]
  have h2 : A_main_v44 (F := Ideal) A0 A1 A3 i = ((gam δ ^ 2 : ℝ) : EReal) := square h1
  have h4 : A_main_v45 (F := Ideal) A0 A1 A3 i = ((gam δ ^ 4 : ℝ) : EReal) := square h2
  have h8 : A_main_v46 (F := Ideal) A0 A1 A3 i = ((gam δ ^ 8 : ℝ) : EReal) := square h4
  have h16 : A_main_v47 (F := Ideal) A0 A1 A3 i = ((gam δ ^ 16 : ℝ) : EReal) := square h8
  have h32 : A_main_v48 (F := Ideal) A0 A1 A3 i = ((gam δ ^ 32 : ℝ) : EReal) := square h16
  exact square h32

/-- The mask: the weight of position `k` for a read at position `r`. -/
theorem weight_at (r k : Fin 64) : A_main_v33 (F := Ideal) A0 A1 A3 (ix2 r k) = ((weight (gam δ) r k : ℝ) : EReal) := by
  have e1 : A_main_v31 (F := Ideal) A0 A1 A3 (ix2 r k) = ((gam δ ^ ((r : ℕ) - 1 - k) : ℝ) : EReal) := by
    show Ideal.exp (FloatOps.sitofp (F := Ideal) .f32
        (IntOp.maxsi 0#32 (IntOp.subi (IntOp.subi (BitVec.ofNat 32 r) 1#32) (BitVec.ofNat 32 k)))
      * A_main_v4 (F := Ideal) A0 A1 A3 _) = _
    rw [word_age, word_nat _ (by omega), logDecay_at h, powers δ]
  have e2 : K_main_v32 (F := Ideal) (ix2 r k) = (((if (k : ℕ) < r then 1 else 0 : ℝ)) : EReal) := by
    show (((IntOp.cmpi .sgt (BitVec.ofNat 32 r) (BitVec.ofNat 32 k)).toNat : ℝ) : EReal) = _
    rw [word_later]
    by_cases hk : (k : ℕ) < r <;> simp [hk]
  show A_main_v31 (F := Ideal) A0 A1 A3 (ix2 r k) * K_main_v32 (F := Ideal) (ix2 r k) = _
  rw [e1, e2, ← EReal.coe_mul, weight]
  by_cases hk : (k : ℕ) < r <;> simp [hk]

/-! ## Rows, keys and values -/

/-- The keys: the rows moved one position down, with a zero row first. -/
theorem key_at (b : Fin 4) (t : Fin 4096) (d : Fin 1024) : A_main_v7 (F := Ideal) A0 A1 A3 (ix3 b t d) = ((key (x b) t d : ℝ) : EReal) := by
  unfold A_main_v7 key
  by_cases ht : (t : ℕ) = 0
  · rw [if_pos ht]
    refine (pad_apply_of_not_inside _ _ _ _ _ _ _ _ (1 : Fin 3) ?_).trans ?_
    · intro hin
      have e : 1 ≤ (t : ℕ) := hin.1
      omega
    · show (((0#32 : BitVec 32).toInt : ℝ) : EReal) = _
      simp
  · rw [if_neg ht]
    refine (pad_apply_of_inside _ _ _ _ _ _ _ _ (ix3 b (⟨(t : ℕ) - 1, by omega⟩ : Fin 4095) d) ?_).trans ?_
    · intro i
      match i with
      | ⟨0, _⟩ => show (b : ℕ) = 0 + b * (0 + 1); omega
      | ⟨1, _⟩ => show (t : ℕ) = 1 + (t - 1) * (0 + 1); omega
      | ⟨2, _⟩ => show (d : ℕ) = 0 + d * (0 + 1); omega
    · refine (extractStridedSlice_apply _ _ _ _ (ix3 b (⟨(t : ℕ) - 1, by omega⟩ : Fin 4096) d) ?_).trans (h.rows b _ d)
      intro i
      match i with
      | ⟨0, _⟩ => show (b : ℕ) = 0 + b; omega
      | ⟨1, _⟩ => show (t : ℕ) - 1 = 0 + (t - 1); omega
      | ⟨2, _⟩ => show (d : ℕ) = 0 + d; omega

/-- The values: the rows through the write matrix. -/
theorem val_at (b : Fin 4) (t : Fin 4096) (e : Fin 1024) : A_main_v5 (F := Ideal) A0 A1 A3 (ix3 b t e) = ((val (x b) ww t e : ℝ) : EReal) :=
  project_at A0 A1 b t e (x b t) (ww e) (fun d => h.rows b t d) (fun d => h.write e d)

/-- The rows in chunks. -/
theorem rowChunks_at (n : Fin 64) (b : Fin 4) (r : Fin 64) (d : Fin 1024) :
    A_main_v9 (F := Ideal) A0 A1 A3 (ix4 n b r d) = ((x b (64 * (n : ℕ) + r) d : ℝ) : EReal) :=
  chunks_at A0 x h.rows n b r d

/-- The keys in chunks. -/
theorem keyChunks_at (n : Fin 64) (b : Fin 4) (r : Fin 64) (d : Fin 1024) :
    A_main_v11 (F := Ideal) A0 A1 A3 (ix4 n b r d) = ((key (x b) (64 * (n : ℕ) + r) d : ℝ) : EReal) :=
  chunks_at _ (fun b => key (x b)) (key_at h) n b r d

/-- The values in chunks. -/
theorem valChunks_at (n : Fin 64) (b : Fin 4) (r : Fin 64) (d : Fin 1024) :
    A_main_v13 (F := Ideal) A0 A1 A3 (ix4 n b r d) = ((val (x b) ww (64 * (n : ℕ) + r) d : ℝ) : EReal) :=
  chunks_at _ (fun b => val (x b) ww) (val_at h) n b r d

end Cert.HebbStart
-- ==== Proof.HebbLoop.lean ====
/- The reference's loop as a state that advances by one chunk per trip. -/
module

public import proofs.«01_k».proof.Proof.Gen.ReferenceIdeal.Run
public import proofs.«01_k».proof.Proof.Gen.ReferenceIdeal.Step
public import Idealize.ShloMosaic.Lib.StableHlo.RunRead

@[expose] public section

set_option maxRecDepth 16384

noncomputable section

open Idealize.ShloMosaic Idealize.ShloMosaic.StableHlo Idealize.SL.Sem Cert.ReferenceIdeal Cert.ReferenceIdeal.Gen Cert.ReferenceIdeal.Value
open Cert.ReferenceIdeal.Step (State step init b3 b4 b8 b9 b13 b14 b31 b36 R_main_v59)

namespace Cert.HebbLoop

variable {F : FTy → Type} [FloatOps F]

/-- The carried buffers of a valuation, as one state. -/
def stateOf (V : Valuation τ sig (Elt F)) : State F where
  main_v52_8 := V (Proc.devRef .tc main_v52_8)
  main_v52_9 := V (Proc.devRef .tc main_v52_9)
  main_v52_0 := V (Proc.devRef .tc main_v52_0)
  main_v52_1 := V (Proc.devRef .tc main_v52_1)
  main_v52_2 := V (Proc.devRef .tc main_v52_2)
  main_v52_3 := V (Proc.devRef .tc main_v52_3)
  main_v52_4 := V (Proc.devRef .tc main_v52_4)
  main_v52_5 := V (Proc.devRef .tc main_v52_5)
  main_v52_6 := V (Proc.devRef .tc main_v52_6)

section Trip

variable {V : Valuation τ sig (Elt F)} {j : ℕ} (h : V (Proc.devRef .tc main_v52_7) = constantI S_ 32 (BitVec.ofNat 32 j))
include h

/-- The chunk of queries a trip reads. -/
theorem chunk_queries : res_main_while0b_v60 V = b4 j (stateOf V) := by
  unfold res_main_while0b_v60 b4 b3
  rw [h]
  rfl

/-- The chunk of keys a trip reads. -/
theorem chunk_keys : res_main_while0b_v61 V = b9 j (stateOf V) := by
  unfold res_main_while0b_v61 b9 b8
  rw [h]
  rfl

/-- The chunk of values a trip reads. -/
theorem chunk_values : res_main_while0b_v62 V = b14 j (stateOf V) := by
  unfold res_main_while0b_v62 b14 b13
  rw [h]
  rfl

/-- The memory a trip leaves. -/
theorem trip_memory : step_main_v52_8 V = b31 j (stateOf V) := by
  unfold step_main_v52_8
  rw [chunk_keys h, chunk_values h]
  rfl

/-- The reads a trip leaves. -/
theorem trip_reads : step_main_v52_9 V = b36 j (stateOf V) := by
  unfold step_main_v52_9
  rw [chunk_queries h, chunk_keys h, chunk_values h, h]
  rfl

/-- The trip's number goes up by one. -/
theorem trip_number : step_main_v52_7 V = constantI S_ 32 (BitVec.ofNat 32 (j + 1)) := by
  unfold step_main_v52_7
  rw [h]
  funext i
  show BitVec.ofNat 32 j + 1#32 = BitVec.ofNat 32 (j + 1)
  rw [BitVec.ofNat_add]

/-- One trip steps the state. -/
theorem state_trip : stateOf (STEP V) = step j (stateOf V) := by
  unfold step stateOf
  rw [State.mk.injEq]
  exact ⟨(STEP_main_v52_8 V).trans (trip_memory h), (STEP_main_v52_9 V).trans (trip_reads h), STEP_main_v52_0 V, STEP_main_v52_1 V,
    STEP_main_v52_2 V, STEP_main_v52_3 V, STEP_main_v52_4 V, STEP_main_v52_5 V, STEP_main_v52_6 V⟩

end Trip

variable (m : (ℓ : Loc nD τ sig) → Buf (Elt F) ℓ) (c : Dev nD)

/-- The states of the loop: the initial one, then one step per trip. -/
def states (a0 : (⟨S4x4096x1024, .f32⟩ : BufTy).Contents (Elt F)) (a1 : (⟨S1024x1024, .f32⟩ : BufTy).Contents (Elt F))
    (a3 : (⟨S_, .f32⟩ : BufTy).Contents (Elt F)) : ℕ → State F
  | 0 => init a0 a1 a3
  | k + 1 => step k (states a0 a1 a3 k)

/-- The number before the first trip is zero. -/
theorem entry_number : entryContents preI m c (Proc.devRef .tc main_v52_7) = constantI S_ 32 (BitVec.ofNat 32 0) :=
  ctr_entry m c

set_option maxHeartbeats 1000000 in
/-- The state before the first trip. -/
theorem entry_state : stateOf (entryContents preI m c)
    = init (m ((c.tc : Thread nD τ).loc main_arg0)) (m ((c.tc : Thread nD τ).loc main_arg1)) (m ((c.tc : Thread nD τ).loc main_arg3)) := by
  unfold stateOf init
  rw [State.mk.injEq]
  refine ⟨?_, ?_, ?_, ?_, ?_, ?_, ?_, ?_, ?_⟩ <;> (simp only [entryContents, afterL_cons, afterL_nil]; after_reads_simp) <;> rfl

/-- Before every trip the state is the model's and the number is the trip's. -/
theorem trips (k : ℕ) :
    stateOf (STEP^[k] (entryContents preI m c))
        = states (m ((c.tc : Thread nD τ).loc main_arg0)) (m ((c.tc : Thread nD τ).loc main_arg1)) (m ((c.tc : Thread nD τ).loc main_arg3)) k
      ∧ (STEP^[k] (entryContents preI m c)) (Proc.devRef .tc main_v52_7) = constantI S_ 32 (BitVec.ofNat 32 k) := by
  induction k with
  | zero => exact ⟨entry_state m c, entry_number m c⟩
  | succ k ih =>
    rw [Function.iterate_succ_apply']
    exact ⟨(state_trip ih.2).trans (congrArg (step k) ih.1), (STEP_main_v52_7 _).trans (trip_number ih.2)⟩

/-- The result, from the last state. -/
theorem result_state (k : ℕ) :
    out_main_v59 (STEP^[k] (entryContents preI m c))
      = R_main_v59 (states (m ((c.tc : Thread nD τ).loc main_arg0)) (m ((c.tc : Thread nD τ).loc main_arg1)) (m ((c.tc : Thread nD τ).loc main_arg3)) k)
          (m ((c.tc : Thread nD τ).loc main_arg0)) (m ((c.tc : Thread nD τ).loc main_arg2)) (m ((c.tc : Thread nD τ).loc main_arg4)) := by
  rw [← (trips m c k).1]
  unfold out_main_v59
  rw [iter_main_arg0, iter_main_arg2, iter_main_arg4]
  rfl

end Cert.HebbLoop
-- ==== Proof.HebbRef.lean ====
/- The reference's loop over the reals: what the state holds before each trip, and the result. -/
module

public import proofs.«01_k».proof.Proof.HebbStart
public import proofs.«01_k».proof.Proof.HebbLoop

@[expose] public section

set_option maxRecDepth 16384

noncomputable section

open Idealize.ShloMosaic Idealize.ShloMosaic.ValueIdx Idealize.SL.Sem Cert.ReferenceIdeal Cert.ReferenceIdeal.Gen
open Cert.ReferenceIdeal.Step
open Cert.HebbMath Cert.HebbArgs Cert.HebbStart

namespace Cert.HebbRef

/-! ## Products of one chunk -/

/-- The queries of a chunk against the memory. -/
theorem query_at (lhs : FVec Ideal S4x64x1024 .f32) (rhs : FVec Ideal S4x1024x1024 .f32) (b : Fin 4) (r : Fin 64) (e : Fin 1024)
    (f g : Fin 1024 → ℝ) (hl : ∀ d, lhs (ix3 b r d) = ((f d : ℝ) : EReal)) (hg : ∀ d, rhs (ix3 b e d) = ((g d : ℝ) : EReal)) :
    Host.dotGeneral dot_S4x64x1024_S4x1024x1024_S4x64x1024_2_2_1_1_0_0 none lhs rhs (ix3 b r e) = ((∑ d, f d * g d : ℝ) : EReal) := by
  refine hostProduct_at _ 1024 rfl rfl lhs rhs _ f g (fun d => ?_) (fun d => ?_)
  · refine Eq.trans (congrArg lhs (funext fun a => Fin.ext ?_)) (hl d)
    match a with
    | ⟨0, _⟩ => rfl
    | ⟨1, _⟩ => rfl
    | ⟨2, _⟩ => rfl
  · refine Eq.trans (congrArg rhs (funext fun a => Fin.ext ?_)) (hg d)
    match a with
    | ⟨0, _⟩ => rfl
    | ⟨1, _⟩ => rfl
    | ⟨2, _⟩ => rfl

/-- The queries of a chunk against its keys. -/
theorem pairs_at (lhs rhs : FVec Ideal S4x64x1024 .f32) (b : Fin 4) (r k : Fin 64)
    (f g : Fin 1024 → ℝ) (hl : ∀ d, lhs (ix3 b r d) = ((f d : ℝ) : EReal)) (hg : ∀ d, rhs (ix3 b k d) = ((g d : ℝ) : EReal)) :
    Host.dotGeneral dot_S4x64x1024_S4x64x1024_S4x64x64_2_2_1_1_0_0 none lhs rhs (ix3 b r k) = ((∑ d, f d * g d : ℝ) : EReal) := by
  refine hostProduct_at _ 1024 rfl rfl lhs rhs _ f g (fun d => ?_) (fun d => ?_)
  · refine Eq.trans (congrArg lhs (funext fun a => Fin.ext ?_)) (hl d)
    match a with
    | ⟨0, _⟩ => rfl
    | ⟨1, _⟩ => rfl
    | ⟨2, _⟩ => rfl
  · refine Eq.trans (congrArg rhs (funext fun a => Fin.ext ?_)) (hg d)
    match a with
    | ⟨0, _⟩ => rfl
    | ⟨1, _⟩ => rfl
    | ⟨2, _⟩ => rfl

/-- The weighted scores of a chunk against its values. -/
theorem scores_at (lhs : FVec Ideal S4x64x64 .f32) (rhs : FVec Ideal S4x64x1024 .f32) (b : Fin 4) (r : Fin 64) (e : Fin 1024)
    (f g : Fin 64 → ℝ) (hl : ∀ k, lhs (ix3 b r k) = ((f k : ℝ) : EReal)) (hg : ∀ k, rhs (ix3 b k e) = ((g k : ℝ) : EReal)) :
    Host.dotGeneral dot_S4x64x64_S4x64x1024_S4x64x1024_2_1_1_2_0_0 none lhs rhs (ix3 b r e) = ((∑ k, f k * g k : ℝ) : EReal) := by
  refine hostProduct_at _ 64 rfl rfl lhs rhs _ f g (fun k => ?_) (fun k => ?_)
  · refine Eq.trans (congrArg lhs (funext fun a => Fin.ext ?_)) (hl k)
    match a with
    | ⟨0, _⟩ => rfl
    | ⟨1, _⟩ => rfl
    | ⟨2, _⟩ => rfl
  · refine Eq.trans (congrArg rhs (funext fun a => Fin.ext ?_)) (hg k)
    match a with
    | ⟨0, _⟩ => rfl
    | ⟨1, _⟩ => rfl
    | ⟨2, _⟩ => rfl

/-- The outer products of a chunk, summed over its rows. -/
theorem writes_at (lhs rhs : FVec Ideal S4x64x1024 .f32) (b : Fin 4) (e d : Fin 1024)
    (f g : Fin 64 → ℝ) (hl : ∀ k, lhs (ix3 b k e) = ((f k : ℝ) : EReal)) (hg : ∀ k, rhs (ix3 b k d) = ((g k : ℝ) : EReal)) :
    Host.dotGeneral dot_S4x64x1024_S4x64x1024_S4x1024x1024_1_1_2_2_0_0 none lhs rhs (ix3 b e d) = ((∑ k, f k * g k : ℝ) : EReal) := by
  refine hostProduct_at _ 64 rfl rfl lhs rhs _ f g (fun k => ?_) (fun k => ?_)
  · refine Eq.trans (congrArg lhs (funext fun a => Fin.ext ?_)) (hl k)
    match a with
    | ⟨0, _⟩ => rfl
    | ⟨1, _⟩ => rfl
    | ⟨2, _⟩ => rfl
  · refine Eq.trans (congrArg rhs (funext fun a => Fin.ext ?_)) (hg k)
    match a with
    | ⟨0, _⟩ => rfl
    | ⟨1, _⟩ => rfl
    | ⟨2, _⟩ => rfl

/-! ## Reading and writing one chunk of an array of chunks -/

/-- A trip's number, read back from its word. -/
theorem word_trip {j : ℕ} (hj : j < 64) : (BitVec.ofNat 32 j).toInt = (j : ℤ) := by
  rw [BitVec.toInt_ofNat']; simp only [Int.bmod]; omega

/-- The start of chunk `j`, clamped to the array, on each axis. -/
theorem clamp_start {j : ℕ} (hj : j < 64) (start : Fin 4 → ℤ) (h0 : start 0 = (BitVec.ofNat 32 j).toInt)
    (h1 : start 1 = 0) (h2 : start 2 = 0) (h3 : start 3 = 0) (a : Fin S64x4x64x1024.rank) :
    (min (max (start a) 0) ((S64x4x64x1024.size a - S1x4x64x1024.size a : ℕ) : ℤ)).toNat = (![j, 0, 0, 0] : Fin 4 → ℕ) a := by
  rw [word_trip hj] at h0
  match a with
  | ⟨0, _⟩ =>
    show (min (max (start 0) 0) ((64 - 1 : ℕ) : ℤ)).toNat = j
    rw [h0]; omega
  | ⟨1, _⟩ =>
    show (min (max (start 1) 0) ((4 - 4 : ℕ) : ℤ)).toNat = 0
    rw [h1]; rfl
  | ⟨2, _⟩ =>
    show (min (max (start 2) 0) ((64 - 64 : ℕ) : ℤ)).toNat = 0
    rw [h2]; rfl
  | ⟨3, _⟩ =>
    show (min (max (start 3) 0) ((1024 - 1024 : ℕ) : ℤ)).toNat = 0
    rw [h3]; rfl

/-- One chunk lies within the array of chunks. -/
theorem chunk_fits {j : ℕ} (hj : j < 64) : S64x4x64x1024.Slices (![j, 0, 0, 0] : Fin 4 → ℕ) S1x4x64x1024 := by
  refine ⟨rfl, fun a => ?_⟩
  match a with
  | ⟨0, _⟩ => show j + 1 ≤ 64; omega
  | ⟨1, _⟩ => show 0 + 4 ≤ 4; omega
  | ⟨2, _⟩ => show 0 + 64 ≤ 64; omega
  | ⟨3, _⟩ => show 0 + 1024 ≤ 1024; omega

/-- The chunk a trip reads. -/
theorem slice_at {j : ℕ} (hj : j < 64) (X : FVec Ideal S64x4x64x1024 .f32) (start : Fin 4 → ℤ)
    (h0 : start 0 = (BitVec.ofNat 32 j).toInt) (h1 : start 1 = 0) (h2 : start 2 = 0) (h3 : start 3 = 0)
    (hf : S64x4x64x1024.Slices (fun _ => 0) S1x4x64x1024) (b : Fin 4) (r : Fin 64) (d : Fin 1024) :
    shapeCast S4x64x1024 (Host.dynamicSlice S1x4x64x1024 X start hf) shapeCasts_S1x4x64x1024_S4x64x1024 (ix3 b r d)
      = X (ix4 (⟨j, hj⟩ : Fin 64) b r d) := by
  refine (shapeCast_apply _ _ _ (ix4 (0 : Fin 1) b r d) ?_).trans ?_
  · rw [Shape.rowMajor_val_three, Shape.rowMajor_val_four]
    show ((0 * 4 + (b : ℕ)) * 64 + r) * 1024 + d = ((b : ℕ) * 64 + r) * 1024 + d
    ring
  · show X (fun a => _) = _
    refine congrArg X (funext fun a => Fin.ext ?_)
    have e := clamp_start hj start h0 h1 h2 h3 a
    refine (congrArg (· + _) e).trans ?_
    match a with
    | ⟨0, _⟩ => rfl
    | ⟨1, _⟩ => exact Nat.zero_add _
    | ⟨2, _⟩ => exact Nat.zero_add _
    | ⟨3, _⟩ => exact Nat.zero_add _

/-- A trip's own chunk of the results, after it has written it. -/
theorem update_hit {j : ℕ} (hj : j < 64) (X : FVec Ideal S64x4x64x1024 .f32) (U : FVec Ideal S1x4x64x1024 .f32) (start : Fin 4 → ℤ)
    (h0 : start 0 = (BitVec.ofNat 32 j).toInt) (h1 : start 1 = 0) (h2 : start 2 = 0) (h3 : start 3 = 0)
    (hf : S64x4x64x1024.Slices (fun _ => 0) S1x4x64x1024) (b : Fin 4) (r : Fin 64) (e : Fin 1024) :
    Host.dynamicUpdateSlice X U start hf (ix4 (⟨j, hj⟩ : Fin 64) b r e) = U (ix4 (0 : Fin 1) b r e) := by
  rw [Host.dynamicUpdateSlice_eq_updateSlice X U start hf _ (clamp_start hj start h0 h1 h2 h3) (chunk_fits hj)]
  unfold updateSlice
  rw [dif_pos]
  · refine congrArg U (funext fun a => Fin.ext ?_)
    match a with
    | ⟨0, _⟩ => exact Nat.sub_self j
    | ⟨1, _⟩ => rfl
    | ⟨2, _⟩ => rfl
    | ⟨3, _⟩ => rfl
  · intro a
    match a with
    | ⟨0, _⟩ => exact ⟨le_refl j, Nat.lt_succ_self j⟩
    | ⟨1, _⟩ => exact ⟨Nat.zero_le _, by show (b : ℕ) < 0 + 4; omega⟩
    | ⟨2, _⟩ => exact ⟨Nat.zero_le _, by show (r : ℕ) < 0 + 64; omega⟩
    | ⟨3, _⟩ => exact ⟨Nat.zero_le _, by show (e : ℕ) < 0 + 1024; omega⟩

/-- The other chunks of the results stay. -/
theorem update_miss {j : ℕ} (hj : j < 64) (X : FVec Ideal S64x4x64x1024 .f32) (U : FVec Ideal S1x4x64x1024 .f32) (start : Fin 4 → ℤ)
    (h0 : start 0 = (BitVec.ofNat 32 j).toInt) (h1 : start 1 = 0) (h2 : start 2 = 0) (h3 : start 3 = 0)
    (hf : S64x4x64x1024.Slices (fun _ => 0) S1x4x64x1024) (n : Fin 64) (hn : (n : ℕ) < j) (b : Fin 4) (r : Fin 64) (e : Fin 1024) :
    Host.dynamicUpdateSlice X U start hf (ix4 n b r e) = X (ix4 n b r e) := by
  rw [Host.dynamicUpdateSlice_eq_updateSlice X U start hf _ (clamp_start hj start h0 h1 h2 h3) (chunk_fits hj)]
  unfold updateSlice
  rw [dif_neg]
  intro hin
  have h := (hin (0 : Fin 4)).1
  have h' : j ≤ (n : ℕ) := h
  omega

/-! ## The loop -/

/-- What the state holds before trip `k`. -/
structure Inv (x : Fin 4 → ℕ → Fin 1024 → ℝ) (ww : Fin 1024 → Fin 1024 → ℝ) (γ : ℝ) (k : ℕ) (s : State Ideal) : Prop where
  rows (n : Fin 64) (b : Fin 4) (r : Fin 64) (d : Fin 1024) : s.main_v52_0 (ix4 n b r d) = ((x b (64 * (n : ℕ) + r) d : ℝ) : EReal)
  keys (n : Fin 64) (b : Fin 4) (r : Fin 64) (d : Fin 1024) : s.main_v52_1 (ix4 n b r d) = ((key (x b) (64 * (n : ℕ) + r) d : ℝ) : EReal)
  vals (n : Fin 64) (b : Fin 4) (r : Fin 64) (e : Fin 1024) : s.main_v52_2 (ix4 n b r e) = ((val (x b) ww (64 * (n : ℕ) + r) e : ℝ) : EReal)
  readPower (r : Fin 64) : s.main_v52_3 (ix1 r) = ((γ ^ (r : ℕ) : ℝ) : EReal)
  weights (r k : Fin 64) : s.main_v52_4 (ix2 r k) = ((weight γ r k : ℝ) : EReal)
  chunkPower (i : S_.Idx) : s.main_v52_5 i = ((γ ^ 64 : ℝ) : EReal)
  writePower (r : Fin 64) : s.main_v52_6 (ix1 r) = ((γ ^ (64 - 1 - (r : ℕ)) : ℝ) : EReal)
  memory (b : Fin 4) (e d : Fin 1024) : s.main_v52_8 (ix3 b e d) = ((mem γ (key (x b)) (val (x b) ww) (64 * k) d e : ℝ) : EReal)
  reads (n : Fin 64) (_ : (n : ℕ) < k) (b : Fin 4) (r : Fin 64) (e : Fin 1024) :
    s.main_v52_9 (ix4 n b r e) = ((answer γ (x b (64 * (n : ℕ) + r)) (key (x b)) (val (x b) ww) (64 * (n : ℕ) + r) e : ℝ) : EReal)

section Trip

variable {x : Fin 4 → ℕ → Fin 1024 → ℝ} {ww : Fin 1024 → Fin 1024 → ℝ} {γ : ℝ} {j : ℕ} {s : State Ideal}
  (I : Inv x ww γ j s) (hj : j < 64)
include I hj

/-- The queries of a trip. -/
theorem queries_trip (b : Fin 4) (r : Fin 64) (d : Fin 1024) : b4 j s (ix3 b r d) = ((x b (64 * j + r) d : ℝ) : EReal) :=
  (slice_at hj _ _ rfl rfl rfl rfl _ b r d).trans (I.rows ⟨j, hj⟩ b r d)

/-- The keys of a trip. -/
theorem keys_trip (b : Fin 4) (r : Fin 64) (d : Fin 1024) : b9 j s (ix3 b r d) = ((key (x b) (64 * j + r) d : ℝ) : EReal) :=
  (slice_at hj _ _ rfl rfl rfl rfl _ b r d).trans (I.keys ⟨j, hj⟩ b r d)

/-- The values of a trip. -/
theorem vals_trip (b : Fin 4) (r : Fin 64) (e : Fin 1024) : b14 j s (ix3 b r e) = ((val (x b) ww (64 * j + r) e : ℝ) : EReal) :=
  (slice_at hj _ _ rfl rfl rfl rfl _ b r e).trans (I.vals ⟨j, hj⟩ b r e)

/-- The answers of a trip. -/
theorem answers_trip (b : Fin 4) (r : Fin 64) (e : Fin 1024) :
    b24 j s (ix3 b r e) = ((answer γ (x b (64 * j + r)) (key (x b)) (val (x b) ww) (64 * j + r) e : ℝ) : EReal) := by
  have e15 : b15 j s (ix3 b r e) = ((∑ d, x b (64 * j + r) d * mem γ (key (x b)) (val (x b) ww) (64 * j) d e : ℝ) : EReal) :=
    query_at _ _ b r e _ _ (queries_trip I hj b r) (I.memory b e)
  have e17 : b17 j s (ix3 b r e) = ((γ ^ (r : ℕ) : ℝ) : EReal) := by
    refine (broadcastInDim_apply _ _ _ _ (ix3 (0 : Fin 1) r (0 : Fin 1)) ?_).trans ?_
    · intro a
      match a with
      | ⟨0, _⟩ => rfl
      | ⟨1, _⟩ => rfl
      | ⟨2, _⟩ => rfl
    · refine (broadcastInDim_apply _ _ _ _ (ix1 r) ?_).trans (I.readPower r)
      intro a
      match a with
      | ⟨0, _⟩ => rfl
  have e22 (k : Fin 64) : b22 j s (ix3 b r k)
      = (((∑ d, x b (64 * j + r) d * key (x b) (64 * j + k) d) * weight γ r k : ℝ) : EReal) := by
    have e19 : b19 j s (ix3 b r k) = ((∑ d, x b (64 * j + r) d * key (x b) (64 * j + k) d : ℝ) : EReal) :=
      pairs_at _ _ b r k _ _ (queries_trip I hj b r) (keys_trip I hj b k)
    have e21 : b21 j s (ix3 b r k) = ((weight γ r k : ℝ) : EReal) := by
      refine (broadcastInDim_apply _ _ _ _ (ix3 (0 : Fin 1) r k) ?_).trans ?_
      · intro a
        match a with
        | ⟨0, _⟩ => rfl
        | ⟨1, _⟩ => rfl
        | ⟨2, _⟩ => rfl
      · refine (broadcastInDim_apply _ _ _ _ (ix2 r k) ?_).trans (I.weights r k)
        intro a
        match a with
        | ⟨0, _⟩ => rfl
        | ⟨1, _⟩ => rfl
    show b19 j s (ix3 b r k) * b21 j s (ix3 b r k) = _
    rw [e19, e21, ← EReal.coe_mul]
  have e23 : b23 j s (ix3 b r e)
      = ((∑ k : Fin 64, ((∑ d, x b (64 * j + r) d * key (x b) (64 * j + k) d) * weight γ r k) * val (x b) ww (64 * j + k) e : ℝ) : EReal) :=
    scores_at _ _ b r e _ _ e22 (fun k => vals_trip I hj b k e)
  show b15 j s (ix3 b r e) * b17 j s (ix3 b r e) + b23 j s (ix3 b r e) = _
  rw [e15, e17, e23, ← EReal.coe_mul, ← EReal.coe_add, answer_add γ _ _ _ (64 * j) 64 r r.isLt e, Finset.sum_mul]
  exact congrArg _ (congrArg (· + _) (Finset.sum_congr rfl fun d _ => by ring))

/-- The memory after a trip. -/
theorem memory_trip (b : Fin 4) (e d : Fin 1024) :
    b31 j s (ix3 b e d) = ((mem γ (key (x b)) (val (x b) ww) (64 * (j + 1)) d e : ℝ) : EReal) := by
  have e26 : b26 j s (ix3 b e d) = ((γ ^ 64 * mem γ (key (x b)) (val (x b) ww) (64 * j) d e : ℝ) : EReal) := by
    show s.main_v52_5 _ * s.main_v52_8 (ix3 b e d) = _
    rw [I.chunkPower, I.memory, ← EReal.coe_mul]
  have e29 (k : Fin 64) : b29 j s (ix3 b k e) = ((val (x b) ww (64 * j + k) e * γ ^ (64 - 1 - (k : ℕ)) : ℝ) : EReal) := by
    have e28 : b28 j s (ix3 b k e) = ((γ ^ (64 - 1 - (k : ℕ)) : ℝ) : EReal) := by
      refine (broadcastInDim_apply _ _ _ _ (ix3 (0 : Fin 1) k (0 : Fin 1)) ?_).trans ?_
      · intro a
        match a with
        | ⟨0, _⟩ => rfl
        | ⟨1, _⟩ => rfl
        | ⟨2, _⟩ => rfl
      · refine (broadcastInDim_apply _ _ _ _ (ix1 k) ?_).trans (I.writePower k)
        intro a
        match a with
        | ⟨0, _⟩ => rfl
    show b14 j s (ix3 b k e) * b28 j s (ix3 b k e) = _
    rw [vals_trip I hj, e28, ← EReal.coe_mul]
  have e30 : b30 j s (ix3 b e d)
      = ((∑ k : Fin 64, (val (x b) ww (64 * j + k) e * γ ^ (64 - 1 - (k : ℕ))) * key (x b) (64 * j + k) d : ℝ) : EReal) :=
    writes_at _ _ b e d _ _ e29 (fun k => keys_trip I hj b k d)
  show b26 j s (ix3 b e d) + b30 j s (ix3 b e d) = _
  rw [e26, e30, ← EReal.coe_add, show 64 * (j + 1) = 64 * j + 64 from rfl, mem_add γ _ _ (64 * j) 64 d e]
  congr 2
  exact Finset.sum_congr rfl fun k _ => mul_comm _ _

/-- One trip keeps the invariant. -/
theorem trip : Inv x ww γ (j + 1) (step j s) where
  rows := I.rows
  keys := I.keys
  vals := I.vals
  readPower := I.readPower
  weights := I.weights
  chunkPower := I.chunkPower
  writePower := I.writePower
  memory := memory_trip I hj
  reads n hn b r e := by
    show b36 j s (ix4 n b r e) = _
    by_cases hnj : (n : ℕ) = j
    · obtain rfl : n = ⟨j, hj⟩ := Fin.ext hnj
      refine (update_hit hj _ _ _ rfl rfl rfl rfl _ b r e).trans ?_
      refine (broadcastInDim_apply _ _ _ _ (ix3 b r e) ?_).trans (answers_trip I hj b r e)
      intro a
      match a with
      | ⟨0, _⟩ => rfl
      | ⟨1, _⟩ => rfl
      | ⟨2, _⟩ => rfl
    · exact (update_miss hj _ _ _ rfl rfl rfl rfl _ n (by omega) b r e).trans (I.reads n (by omega) b r e)

end Trip

variable {x : Fin 4 → ℕ → Fin 1024 → ℝ} {ww : Fin 1024 → Fin 1024 → ℝ} {wr : Fin 1024 → Fin 1024 → EReal} {δ a : EReal}
  {A0 : FVec Ideal SX .f32} {A1 A2 : FVec Ideal SW .f32} {A3 A4 : FVec Ideal S0 .f32} (h : Holds x ww wr δ a A0 A1 A2 A3 A4)
include h

/-- The invariant holds before the first trip. -/
theorem start : Inv x ww (gam δ) 0 (init A0 A1 A3) where
  rows := rowChunks_at h
  keys := keyChunks_at h
  vals := valChunks_at h
  readPower := readPower_at h
  weights := weight_at h
  chunkPower := chunkPower_at h
  writePower := writePower_at h
  memory b e d := by
    rw [Nat.mul_zero, mem_zero]
    exact Cert.HebbTile.word_zero
  reads n hn := absurd hn (Nat.not_lt_zero _)

/-- The invariant holds before every trip. -/
theorem loop (k : ℕ) (hk : k ≤ 64) : Inv x ww (gam δ) k (Cert.HebbLoop.states (F := Ideal) A0 A1 A3 k) := by
  induction k with
  | zero => exact start h
  | succ k ih => exact trip (ih (by omega)) (by omega)

/-- The scale is finite and not negative. -/
theorem scale_finite : 0 ≤ Ideal.exp a ∧ Ideal.exp a ≠ ⊤ := by
  have hb := h.below
  clear h
  induction a using EReal.rec with
  | bot => exact ⟨le_refl _, EReal.zero_ne_top⟩
  | coe r =>
    rw [Ideal.exp_coe]
    exact ⟨EReal.coe_nonneg.mpr (Real.exp_pos r).le, EReal.coe_ne_top _⟩
  | top => exact absurd hb (lt_irrefl _)

/-- The reference's result, of a state after the last trip. -/
theorem result_of (s : State Ideal) (I : Inv x ww (gam δ) 64 s) : R_main_v59 (F := Ideal) s A0 A2 A4 = result x ww wr δ a := by
  funext i
  obtain ⟨b, t, f, rfl⟩ : ∃ (b : Fin 4) (t : Fin 4096) (f : Fin 1024), i = ix3 b t f := ⟨_, _, _, eq_ix3 i⟩
  have ht : 64 * ((t : ℕ) / 64) + (t : ℕ) % 64 = t := Nat.div_add_mod _ _
  have er (e : Fin 1024) : shapeCast S4x4096x1024 (transpose S4x64x64x1024 [1, 0, 2, 3] s.main_v52_9
        transposes_S64x4x64x1024_S4x64x64x1024_1_0_2_3) shapeCasts_S4x64x64x1024_S4x4096x1024 (ix3 b t e)
      = ((answer (gam δ) (x b t) (key (x b)) (val (x b) ww) t e : ℝ) : EReal) := by
    refine (shapeCast_apply _ _ _ (ix4 b (⟨(t : ℕ) / 64, by omega⟩ : Fin 64) (⟨(t : ℕ) % 64, by omega⟩ : Fin 64) e) ?_).trans ?_
    · rw [Shape.rowMajor_val_three, Shape.rowMajor_val_four]
      show (((b : ℕ) * 64 + (t : ℕ) / 64) * 64 + (t : ℕ) % 64) * 1024 + (e : ℕ) = ((b : ℕ) * 4096 + t) * 1024 + e
      omega
    · refine (transpose_apply _ _ _ _ (ix4 (⟨(t : ℕ) / 64, by omega⟩ : Fin 64) b (⟨(t : ℕ) % 64, by omega⟩ : Fin 64) e) ?_).trans ?_
      · intro a
        match a with
        | ⟨0, _⟩ => rfl
        | ⟨1, _⟩ => rfl
        | ⟨2, _⟩ => rfl
        | ⟨3, _⟩ => rfl
      · refine (I.reads _ (by show (t : ℕ) / 64 < 64; omega) b _ e).trans ?_
        show ((answer (gam δ) (x b (64 * ((t : ℕ) / 64) + (t : ℕ) % 64)) (key (x b)) (val (x b) ww) (64 * ((t : ℕ) / 64) + (t : ℕ) % 64) e : ℝ) : EReal) = _
        rw [ht]
  have ep := readOut_at _ A2 b t f _ _ er (fun e => h.read f e)
  show A0 (ix3 b t f) + Ideal.exp (A4 _) * Host.dotGeneral (F := Ideal) dot_S4x4096x1024_S1024x1024_S4x4096x1024_2_1_01_0_n_n none _ A2 (ix3 b t f) = _
  obtain ⟨hn, hf⟩ := scale_finite h
  rw [ep, h.rows, h.scale, mul_sum_of_nonneg _ hn hf]
  show _ = layer (gam δ) (x b) ww wr (Ideal.exp a) t f
  rw [layer]
  refine congrArg (_ + ·) (Finset.sum_congr rfl fun e _ => ?_)
  rw [mul_comm, mul_assoc]

/-- The reference's result, after all the trips. -/
theorem result_at : R_main_v59 (F := Ideal) (Cert.HebbLoop.states (F := Ideal) A0 A1 A3 64) A0 A2 A4 = result x ww wr δ a :=
  result_of h _ (loop h 64 (le_refl _))

end Cert.HebbRef
-- ==== Proof.lean ====
/- The certificate: the three programs run and leave everything in order, and the idealized kernel and the reference
   compute one function of the arguments over the extended reals, from finite rows, a finite write weight and a scale that is
   not infinite. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.HebbKernel
public import proofs.«01_k».proof.Proof.HebbRef
public import Idealize.ShloMosaic.Lib.Quiescent
public import Idealize.ShloMosaic.Adequacy
public import Idealize.ShloMosaic.Init

@[expose] public section

noncomputable section

namespace Cert.Proof

open Idealize.ShloMosaic Idealize.SL.Sem Cert.HebbArgs

instance boundedFacts : Cert.Pre_bounded.Facts := Cert.HebbArgs.pre_facts

/-- The reference runs, leaves its arguments as they were, and ends with every semaphore counter at zero. -/
theorem reference_frame : quiescent_ReferenceIdeal := fun m g _ =>
  (θ_run _ _ _).mono (fun r h => ⟨fun c => (h c).2, sem_eq_zero_of_no_sems rfl r.2⟩) (Cert.ReferenceIdeal.Value.run (F := Ideal) m g)

/-- Under the precondition the kernel and the reference end with the same array of results. -/
theorem values : algebraic_KernelIdeal_ReferenceIdeal_pre_bounded := by
  intro m g m' g' hpre hargs
  have hold (c : Dev Cert.KernelIdeal.nD) := holds_of_bounded _ _ _ _ _ (hpre c).1 (hpre c).2.1 (hpre c).2.2
  refine ⟨_, Cert.HebbKernel.run m g _ (fun c => ⟨_, _, _, _, _, hold c, rfl⟩), ?_⟩
  refine (θ_run _ _ _).mono (fun r h c => ⟨?_, (h c).2⟩) (Cert.ReferenceIdeal.Value.run (F := Ideal) m' g')
  refine (h c).1.trans ((Cert.HebbLoop.result_state m' c 64).trans ?_)
  obtain ⟨e0, e1, e2, e3, e4⟩ := hargs c
  rw [e0, e1, e2, e3, e4]
  exact Cert.HebbRef.result_at (hold c)

/-- All the claims. -/
theorem claim : Cert.Claim := ⟨Cert.Kernel.Gen.facts, Cert.KernelIdeal.Gen.facts, Cert.ReferenceIdeal.Gen.facts, boundedFacts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, values⟩

end Cert.Proof

end
